-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x8192 : Shape := ⟨2, ![4096, 8192]⟩
abbrev S1 : Shape := ⟨1, ![1]⟩
abbrev S128x8192 : Shape := ⟨2, ![128, 8192]⟩
abbrev S32x128x128 : Shape := ⟨3, ![32, 128, 128]⟩
abbrev S2x512x8192 : Shape := ⟨3, ![2, 512, 8192]⟩
abbrev S32 : Shape := ⟨1, ![32]⟩
abbrev S2x2 : Shape := ⟨2, ![2, 2]⟩
abbrev S_ : Shape := ⟨0, ![]⟩
abbrev S1x128x128 : Shape := ⟨3, ![1, 128, 128]⟩
abbrev S128x128 : Shape := ⟨2, ![128, 128]⟩
abbrev S1x1 : Shape := ⟨2, ![1, 1]⟩
abbrev S1x512x4096 : Shape := ⟨3, ![1, 512, 4096]⟩
abbrev S512x4096 : Shape := ⟨2, ![512, 4096]⟩
abbrev S128x512 : Shape := ⟨2, ![128, 512]⟩
abbrev S1x512x8192 : Shape := ⟨3, ![1, 512, 8192]⟩
abbrev S512x8192 : Shape := ⟨2, ![512, 8192]⟩

abbrev nBuf : Space → Nat
  | .hbm => 5
  | .vmem => 5
  | .smem => 2
  | _ => 0

abbrev bufTy : (tb : Table) → Fin (tcTables nBuf tb) → BufTy
  | .hbm, ⟨0, _⟩ => ⟨S4096x128, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S128x8192, .f32⟩
  | .local _ .vmem, ⟨0, _⟩ => ⟨S4096x128, .f32⟩
  | .local _ .vmem, ⟨1, _⟩ => ⟨S128x8192, .f32⟩
  | .local _ .vmem, ⟨2, _⟩ => ⟨S4096x128, .fp8e4m3⟩
  | .local _ .vmem, ⟨3, _⟩ => ⟨S32x128x128, .fp8e4m3⟩
  | .local _ .vmem, ⟨4, _⟩ => ⟨S2x512x8192, .f32⟩
  | .local _ .smem, ⟨0, _⟩ => ⟨S1, .f32⟩
  | .local _ .smem, ⟨1, _⟩ => ⟨S1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_dev5 : Nat :=
  let c0_i32_15 : BitVec 32 := 0#32
  let c4_i32 : BitVec 32 := 4#32
  let c1_i32_14 : BitVec 32 := 1#32
  let v12 : BitVec 32 := Scalar.muli c4_i32 c1_i32_14
  let v13 : BitVec 32 := Scalar.addi c0_i32_15 v12
  v13.toNat
def k0_dev6 : Nat :=
  let c0_i32_18 : BitVec 32 := 0#32
  let c5_i32 : BitVec 32 := 5#32
  let c1_i32_17 : BitVec 32 := 1#32
  let v14 : BitVec 32 := Scalar.muli c5_i32 c1_i32_17
  let v15 : BitVec 32 := Scalar.addi c0_i32_18 v14
  v15.toNat
def k0_dev7 : Nat :=
  let c0_i32_21 : BitVec 32 := 0#32
  let c6_i32 : BitVec 32 := 6#32
  let c1_i32_20 : BitVec 32 := 1#32
  let v16 : BitVec 32 := Scalar.muli c6_i32 c1_i32_20
  let v17 : BitVec 32 := Scalar.addi c0_i32_21 v16
  v17.toNat
def k0_dev8 : Nat :=
  let c0_i32_24 : BitVec 32 := 0#32
  let c7_i32 : BitVec 32 := 7#32
  let c1_i32_23 : BitVec 32 := 1#32
  let v18 : BitVec 32 := Scalar.muli c7_i32 c1_i32_23
  let v19 : BitVec 32 := Scalar.addi c0_i32_24 v18
  v19.toNat
def k0_dev9 : Nat :=
  let c0_i32_27 : BitVec 32 := 0#32
  let c8_i32 : BitVec 32 := 8#32
  let c1_i32_26 : BitVec 32 := 1#32
  let v20 : BitVec 32 := Scalar.muli c8_i32 c1_i32_26
  let v21 : BitVec 32 := Scalar.addi c0_i32_27 v20
  v21.toNat
def k0_dev10 : Nat :=
  let c0_i32_30 : BitVec 32 := 0#32
  let c9_i32 : BitVec 32 := 9#32
  let c1_i32_29 : BitVec 32 := 1#32
  let v22 : BitVec 32 := Scalar.muli c9_i32 c1_i32_29
  let v23 : BitVec 32 := Scalar.addi c0_i32_30 v22
  v23.toNat
def k0_dev11 : Nat :=
  let c0_i32_33 : BitVec 32 := 0#32
  let c10_i32 : BitVec 32 := 10#32
  let c1_i32_32 : BitVec 32 := 1#32
  let v24 : BitVec 32 := Scalar.muli c10_i32 c1_i32_32
  let v25 : BitVec 32 := Scalar.addi c0_i32_33 v24
  v25.toNat
def k0_dev12 : Nat :=
  let c0_i32_36 : BitVec 32 := 0#32
  let c11_i32 : BitVec 32 := 11#32
  let c1_i32_35 : BitVec 32 := 1#32
  let v26 : BitVec 32 := Scalar.muli c11_i32 c1_i32_35
  let v27 : BitVec 32 := Scalar.addi c0_i32_36 v26
  v27.toNat
def k0_dev13 : Nat :=
  let c0_i32_39 : BitVec 32 := 0#32
  let c12_i32 : BitVec 32 := 12#32
  let c1_i32_38 : BitVec 32 := 1#32
  let v28 : BitVec 32 := Scalar.muli c12_i32 c1_i32_38
  let v29 : BitVec 32 := Scalar.addi c0_i32_39 v28
  v29.toNat
def k0_dev14 : Nat :=
  let c0_i32_42 : BitVec 32 := 0#32
  let c13_i32 : BitVec 32 := 13#32
  let c1_i32_41 : BitVec 32 := 1#32
  let v30 : BitVec 32 := Scalar.muli c13_i32 c1_i32_41
  let v31 : BitVec 32 := Scalar.addi c0_i32_42 v30
  v31.toNat
def k0_dev15 : Nat :=
  let c0_i32_45 : BitVec 32 := 0#32
  let c14_i32 : BitVec 32 := 14#32
  let c1_i32_44 : BitVec 32 := 1#32
  let v32 : BitVec 32 := Scalar.muli c14_i32 c1_i32_44
  let v33 : BitVec 32 := Scalar.addi c0_i32_45 v32
  v33.toNat
def k0_dev16 : Nat :=
  let c0_i32_48 : BitVec 32 := 0#32
  let c15_i32 : BitVec 32 := 15#32
  let c1_i32_47 : BitVec 32 := 1#32
  let v34 : BitVec 32 := Scalar.muli c15_i32 c1_i32_47
  let v35 : BitVec 32 := Scalar.addi c0_i32_48 v34
  v35.toNat
def k0_dev17 : Nat :=
  let c0_i32_51 : BitVec 32 := 0#32
  let c16_i32 : BitVec 32 := 16#32
  let c1_i32_50 : BitVec 32 := 1#32
  let v36 : BitVec 32 := Scalar.muli c16_i32 c1_i32_50
  let v37 : BitVec 32 := Scalar.addi c0_i32_51 v36
  v37.toNat
def k0_dev18 : Nat :=
  let c0_i32_54 : BitVec 32 := 0#32
  let c17_i32 : BitVec 32 := 17#32
  let c1_i32_53 : BitVec 32 := 1#32
  let v38 : BitVec 32 := Scalar.muli c17_i32 c1_i32_53
  let v39 : BitVec 32 := Scalar.addi c0_i32_54 v38
  v39.toNat
def k0_dev19 : Nat :=
  let c0_i32_57 : BitVec 32 := 0#32
  let c18_i32 : BitVec 32 := 18#32
  let c1_i32_56 : BitVec 32 := 1#32
  let v40 : BitVec 32 := Scalar.muli c18_i32 c1_i32_56
  let v41 : BitVec 32 := Scalar.addi c0_i32_57 v40
  v41.toNat
def k0_dev20 : Nat :=
  let c0_i32_60 : BitVec 32 := 0#32
  let c19_i32 : BitVec 32 := 19#32
  let c1_i32_59 : BitVec 32 := 1#32
  let v42 : BitVec 32 := Scalar.muli c19_i32 c1_i32_59
  let v43 : BitVec 32 := Scalar.addi c0_i32_60 v42
  v43.toNat
def k0_dev21 : Nat :=
  let c0_i32_63 : BitVec 32 := 0#32
  let c20_i32 : BitVec 32 := 20#32
  let c1_i32_62 : BitVec 32 := 1#32
  let v44 : BitVec 32 := Scalar.muli c20_i32 c1_i32_62
  let v45 : BitVec 32 := Scalar.addi c0_i32_63 v44
  v45.toNat
def k0_dev22 : Nat :=
  let c0_i32_66 : BitVec 32 := 0#32
  let c21_i32 : BitVec 32 := 21#32
  let c1_i32_65 : BitVec 32 := 1#32
  let v46 : BitVec 32 := Scalar.muli c21_i32 c1_i32_65
  let v47 : BitVec 32 := Scalar.addi c0_i32_66 v46
  v47.toNat
def k0_dev23 : Nat :=
  let c0_i32_69 : BitVec 32 := 0#32
  let c22_i32 : BitVec 32 := 22#32
  let c1_i32_68 : BitVec 32 := 1#32
  let v48 : BitVec 32 := Scalar.muli c22_i32 c1_i32_68
  let v49 : BitVec 32 := Scalar.addi c0_i32_69 v48
  v49.toNat
def k0_dev24 : Nat :=
  let c0_i32_72 : BitVec 32 := 0#32
  let c23_i32 : BitVec 32 := 23#32
  let c1_i32_71 : BitVec 32 := 1#32
  let v50 : BitVec 32 := Scalar.muli c23_i32 c1_i32_71
  let v51 : BitVec 32 := Scalar.addi c0_i32_72 v50
  v51.toNat
def k0_dev25 : Nat :=
  let c0_i32_75 : BitVec 32 := 0#32
  let c24_i32 : BitVec 32 := 24#32
  let c1_i32_74 : BitVec 32 := 1#32
  let v52 : BitVec 32 := Scalar.muli c24_i32 c1_i32_74
  let v53 : BitVec 32 := Scalar.addi c0_i32_75 v52
  v53.toNat
def k0_dev26 : Nat :=
  let c0_i32_78 : BitVec 32 := 0#32
  let c25_i32 : BitVec 32 := 25#32
  let c1_i32_77 : BitVec 32 := 1#32
  let v54 : BitVec 32 := Scalar.muli c25_i32 c1_i32_77
  let v55 : BitVec 32 := Scalar.addi c0_i32_78 v54
  v55.toNat
def k0_dev27 : Nat :=
  let c0_i32_81 : BitVec 32 := 0#32
  let c26_i32 : BitVec 32 := 26#32
  let c1_i32_80 : BitVec 32 := 1#32
  let v56 : BitVec 32 := Scalar.muli c26_i32 c1_i32_80
  let v57 : BitVec 32 := Scalar.addi c0_i32_81 v56
  v57.toNat
def k0_dev28 : Nat :=
  let c0_i32_84 : BitVec 32 := 0#32
  let c27_i32 : BitVec 32 := 27#32
  let c1_i32_83 : BitVec 32 := 1#32
  let v58 : BitVec 32 := Scalar.muli c27_i32 c1_i32_83
  let v59 : BitVec 32 := Scalar.addi c0_i32_84 v58
  v59.toNat
def k0_dev29 : Nat :=
  let c0_i32_87 : BitVec 32 := 0#32
  let c28_i32 : BitVec 32 := 28#32
  let c1_i32_86 : BitVec 32 := 1#32
  let v60 : BitVec 32 := Scalar.muli c28_i32 c1_i32_86
  let v61 : BitVec 32 := Scalar.addi c0_i32_87 v60
  v61.toNat
def k0_dev30 : Nat :=
  let c0_i32_90 : BitVec 32 := 0#32
  let c29_i32 : BitVec 32 := 29#32
  let c1_i32_89 : BitVec 32 := 1#32
  let v62 : BitVec 32 := Scalar.muli c29_i32 c1_i32_89
  let v63 : BitVec 32 := Scalar.addi c0_i32_90 v62
  v63.toNat
def k0_dev31 : Nat :=
  let c0_i32_93 : BitVec 32 := 0#32
  let c30_i32 : BitVec 32 := 30#32
  let c1_i32_92 : BitVec 32 := 1#32
  let v64 : BitVec 32 := Scalar.muli c30_i32 c1_i32_92
  let v65 : BitVec 32 := Scalar.addi c0_i32_93 v64
  v65.toNat
def k0_dev32 : Nat :=
  let c0_i32_96 : BitVec 32 := 0#32
  let c31_i32 : BitVec 32 := 31#32
  let c1_i32_95 : BitVec 32 := 1#32
  let v66 : BitVec 32 := Scalar.muli c31_i32 c1_i32_95
  let v67 : BitVec 32 := Scalar.addi c0_i32_96 v66
  v67.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_101 : BitVec 32 := 0#32
  let v74 : BitVec 1 := Scalar.cmpi .ne v2 c0_i32_101
  let v75 : BitVec 32 := Scalar.extui v74
  let c0_i32_102 : BitVec 32 := 0#32
  let v76 : BitVec 1 := Scalar.cmpi .ne v75 c0_i32_102
  v76

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_dev33 : Nat :=
  let c0_i32_653 : BitVec 32 := 0#32
  let c0_i32_651 : BitVec 32 := 0#32
  let c1_i32_652 : BitVec 32 := 1#32
  let v677 : BitVec 32 := Scalar.muli c0_i32_651 c1_i32_652
  let v678 : BitVec 32 := Scalar.addi c0_i32_653 v677
  v678.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_103 : BitVec 32 := 1#32
  let v77 : BitVec 1 := Scalar.cmpi .ne v2 c1_i32_103
  let v78 : BitVec 32 := Scalar.extui v77
  let c0_i32_104 : BitVec 32 := 0#32
  let v79 : BitVec 1 := Scalar.cmpi .ne v78 c0_i32_104
  v79

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_dev34 : Nat :=
  let c0_i32_653 : BitVec 32 := 0#32
  let c1_i32_651 : BitVec 32 := 1#32
  let c1_i32_652 : BitVec 32 := 1#32
  let v677 : BitVec 32 := Scalar.muli c1_i32_651 c1_i32_652
  let v678 : BitVec 32 := Scalar.addi c0_i32_653 v677
  v678.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_105 : BitVec 32 := 2#32
  let v80 : BitVec 1 := Scalar.cmpi .ne v2 c2_i32_105
  let v81 : BitVec 32 := Scalar.extui v80
  let c0_i32_106 : BitVec 32 := 0#32
  let v82 : BitVec 1 := Scalar.cmpi .ne v81 c0_i32_106
  v82

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_dev35 : Nat :=
  let c0_i32_653 : BitVec 32 := 0#32
  let c2_i32_651 : BitVec 32 := 2#32
  let c1_i32_652 : BitVec 32 := 1#32
  let v677 : BitVec 32 := Scalar.muli c2_i32_651 c1_i32_652
  let v678 : BitVec 32 := Scalar.addi c0_i32_653 v677
  v678.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_107 : BitVec 32 := 3#32
  let v83 : BitVec 1 := Scalar.cmpi .ne v2 c3_i32_107
  let v84 : BitVec 32 := Scalar.extui v83
  let c0_i32_108 : BitVec 32 := 0#32
  let v85 : BitVec 1 := Scalar.cmpi .ne v84 c0_i32_108
  v85

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_dev36 : Nat :=
  let c0_i32_653 : BitVec 32 := 0#32
  let c3_i32_651 : BitVec 32 := 3#32
  let c1_i32_652 : BitVec 32 := 1#32
  let v677 : BitVec 32 := Scalar.muli c3_i32_651 c1_i32_652
  let v678 : BitVec 32 := Scalar.addi c0_i32_653 v677
  v678.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_109 : BitVec 32 := 4#32
  let v86 : BitVec 1 := Scalar.cmpi .ne v2 c4_i32_109
  let v87 : BitVec 32 := Scalar.extui v86
  let c0_i32_110 : BitVec 32 := 0#32
  let v88 : BitVec 1 := Scalar.cmpi .ne v87 c0_i32_110
  v88

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_dev37 : Nat :=
  let c0_i32_653 : BitVec 32 := 0#32
  let c4_i32_651 : BitVec 32 := 4#32
  let c1_i32_652 : BitVec 32 := 1#32
  let v677 : BitVec 32 := Scalar.muli c4_i32_651 c1_i32_652
  let v678 : BitVec 32 := Scalar.addi c0_i32_653 v677
  v678.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_111 : BitVec 32 := 5#32
  let v89 : BitVec 1 := Scalar.cmpi .ne v2 c5_i32_111
  let v90 : BitVec 32 := Scalar.extui v89
  let c0_i32_112 : BitVec 32 := 0#32
  let v91 : BitVec 1 := Scalar.cmpi .ne v90 c0_i32_112
  v91

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_dev38 : Nat :=
  let c0_i32_653 : BitVec 32 := 0#32
  let c5_i32_651 : BitVec 32 := 5#32
  let c1_i32_652 : BitVec 32 := 1#32
  let v677 : BitVec 32 := Scalar.muli c5_i32_651 c1_i32_652
  let v678 : BitVec 32 := Scalar.addi c0_i32_653 v677
  v678.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_113 : BitVec 32 := 6#32
  let v92 : BitVec 1 := Scalar.cmpi .ne v2 c6_i32_113
  let v93 : BitVec 32 := Scalar.extui v92
  let c0_i32_114 : BitVec 32 := 0#32
  let v94 : BitVec 1 := Scalar.cmpi .ne v93 c0_i32_114
  v94

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_dev39 : Nat :=
  let c0_i32_653 : BitVec 32 := 0#32
  let c6_i32_651 : BitVec 32 := 6#32
  let c1_i32_652 : BitVec 32 := 1#32
  let v677 : BitVec 32 := Scalar.muli c6_i32_651 c1_i32_652
  let v678 : BitVec 32 := Scalar.addi c0_i32_653 v677
  v678.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_115 : BitVec 32 := 7#32
  let v95 : BitVec 1 := Scalar.cmpi .ne v2 c7_i32_115
  let v96 : BitVec 32 := Scalar.extui v95
  let c0_i32_116 : BitVec 32 := 0#32
  let v97 : BitVec 1 := Scalar.cmpi .ne v96 c0_i32_116
  v97

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_dev40 : Nat :=
  let c0_i32_653 : BitVec 32 := 0#32
  let c7_i32_651 : BitVec 32 := 7#32
  let c1_i32_652 : BitVec 32 := 1#32
  let v677 : BitVec 32 := Scalar.muli c7_i32_651 c1_i32_652
  let v678 : BitVec 32 := Scalar.addi c0_i32_653 v677
  v678.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_117 : BitVec 32 := 8#32
  let v98 : BitVec 1 := Scalar.cmpi .ne v2 c8_i32_117
  let v99 : BitVec 32 := Scalar.extui v98
  let c0_i32_118 : BitVec 32 := 0#32
  let v100 : BitVec 1 := Scalar.cmpi .ne v99 c0_i32_118
  v100

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_dev41 : Nat :=
  let c0_i32_653 : BitVec 32 := 0#32
  let c8_i32_651 : BitVec 32 := 8#32
  let c1_i32_652 : BitVec 32 := 1#32
  let v677 : BitVec 32 := Scalar.muli c8_i32_651 c1_i32_652
  let v678 : BitVec 32 := Scalar.addi c0_i32_653 v677
  v678.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_119 : BitVec 32 := 9#32
  let v101 : BitVec 1 := Scalar.cmpi .ne v2 c9_i32_119
  let v102 : BitVec 32 := Scalar.extui v101
  let c0_i32_120 : BitVec 32 := 0#32
  let v103 : BitVec 1 := Scalar.cmpi .ne v102 c0_i32_120
  v103

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_dev42 : Nat :=
  let c0_i32_653 : BitVec 32 := 0#32
  let c9_i32_651 : BitVec 32 := 9#32
  let c1_i32_652 : BitVec 32 := 1#32
  let v677 : BitVec 32 := Scalar.muli c9_i32_651 c1_i32_652
  let v678 : BitVec 32 := Scalar.addi c0_i32_653 v677
  v678.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_121 : BitVec 32 := 10#32
  let v104 : BitVec 1 := Scalar.cmpi .ne v2 c10_i32_121
  let v105 : BitVec 32 := Scalar.extui v104
  let c0_i32_122 : BitVec 32 := 0#32
  let v106 : BitVec 1 := Scalar.cmpi .ne v105 c0_i32_122
  v106

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_dev43 : Nat :=
  let c0_i32_653 : BitVec 32 := 0#32
  let c10_i32_651 : BitVec 32 := 10#32
  let c1_i32_652 : BitVec 32 := 1#32
  let v677 : BitVec 32 := Scalar.muli c10_i32_651 c1_i32_652
  let v678 : BitVec 32 := Scalar.addi c0_i32_653 v677
  v678.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_123 : BitVec 32 := 11#32
  let v107 : BitVec 1 := Scalar.cmpi .ne v2 c11_i32_123
  let v108 : BitVec 32 := Scalar.extui v107
  let c0_i32_124 : BitVec 32 := 0#32
  let v109 : BitVec 1 := Scalar.cmpi .ne v108 c0_i32_124
  v109

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_dev44 : Nat :=
  let c0_i32_653 : BitVec 32 := 0#32
  let c11_i32_651 : BitVec 32 := 11#32
  let c1_i32_652 : BitVec 32 := 1#32
  let v677 : BitVec 32 := Scalar.muli c11_i32_651 c1_i32_652
  let v678 : BitVec 32 := Scalar.addi c0_i32_653 v677
  v678.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_125 : BitVec 32 := 12#32
  let v110 : BitVec 1 := Scalar.cmpi .ne v2 c12_i32_125
  let v111 : BitVec 32 := Scalar.extui v110
  let c0_i32_126 : BitVec 32 := 0#32
  let v112 : BitVec 1 := Scalar.cmpi .ne v111 c0_i32_126
  v112

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_dev45 : Nat :=
  let c0_i32_653 : BitVec 32 := 0#32
  let c12_i32_651 : BitVec 32 := 12#32
  let c1_i32_652 : BitVec 32 := 1#32
  let v677 : BitVec 32 := Scalar.muli c12_i32_651 c1_i32_652
  let v678 : BitVec 32 := Scalar.addi c0_i32_653 v677
  v678.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_127 : BitVec 32 := 13#32
  let v113 : BitVec 1 := Scalar.cmpi .ne v2 c13_i32_127
  let v114 : BitVec 32 := Scalar.extui v113
  let c0_i32_128 : BitVec 32 := 0#32
  let v115 : BitVec 1 := Scalar.cmpi .ne v114 c0_i32_128
  v115

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_dev46 : Nat :=
  let c0_i32_653 : BitVec 32 := 0#32
  let c13_i32_651 : BitVec 32 := 13#32
  let c1_i32_652 : BitVec 32 := 1#32
  let v677 : BitVec 32 := Scalar.muli c13_i32_651 c1_i32_652
  let v678 : BitVec 32 := Scalar.addi c0_i32_653 v677
  v678.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_129 : BitVec 32 := 14#32
  let v116 : BitVec 1 := Scalar.cmpi .ne v2 c14_i32_129
  let v117 : BitVec 32 := Scalar.extui v116
  let c0_i32_130 : BitVec 32 := 0#32
  let v118 : BitVec 1 := Scalar.cmpi .ne v117 c0_i32_130
  v118

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_dev47 : Nat :=
  let c0_i32_653 : BitVec 32 := 0#32
  let c14_i32_651 : BitVec 32 := 14#32
  let c1_i32_652 : BitVec 32 := 1#32
  let v677 : BitVec 32 := Scalar.muli c14_i32_651 c1_i32_652
  let v678 : BitVec 32 := Scalar.addi c0_i32_653 v677
  v678.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_131 : BitVec 32 := 15#32
  let v119 : BitVec 1 := Scalar.cmpi .ne v2 c15_i32_131
  let v120 : BitVec 32 := Scalar.extui v119
  let c0_i32_132 : BitVec 32 := 0#32
  let v121 : BitVec 1 := Scalar.cmpi .ne v120 c0_i32_132
  v121

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_dev48 : Nat :=
  let c0_i32_653 : BitVec 32 := 0#32
  let c15_i32_651 : BitVec 32 := 15#32
  let c1_i32_652 : BitVec 32 := 1#32
  let v677 : BitVec 32 := Scalar.muli c15_i32_651 c1_i32_652
  let v678 : BitVec 32 := Scalar.addi c0_i32_653 v677
  v678.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_133 : BitVec 32 := 16#32
  let v122 : BitVec 1 := Scalar.cmpi .ne v2 c16_i32_133
  let v123 : BitVec 32 := Scalar.extui v122
  let c0_i32_134 : BitVec 32 := 0#32
  let v124 : BitVec 1 := Scalar.cmpi .ne v123 c0_i32_134
  v124

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_dev49 : Nat :=
  let c0_i32_653 : BitVec 32 := 0#32
  let c16_i32_651 : BitVec 32 := 16#32
  let c1_i32_652 : BitVec 32 := 1#32
  let v677 : BitVec 32 := Scalar.muli c16_i32_651 c1_i32_652
  let v678 : BitVec 32 := Scalar.addi c0_i32_653 v677
  v678.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_135 : BitVec 32 := 17#32
  let v125 : BitVec 1 := Scalar.cmpi .ne v2 c17_i32_135
  let v126 : BitVec 32 := Scalar.extui v125
  let c0_i32_136 : BitVec 32 := 0#32
  let v127 : BitVec 1 := Scalar.cmpi .ne v126 c0_i32_136
  v127

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_dev50 : Nat :=
  let c0_i32_653 : BitVec 32 := 0#32
  let c17_i32_651 : BitVec 32 := 17#32
  let c1_i32_652 : BitVec 32 := 1#32
  let v677 : BitVec 32 := Scalar.muli c17_i32_651 c1_i32_652
  let v678 : BitVec 32 := Scalar.addi c0_i32_653 v677
  v678.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_137 : BitVec 32 := 18#32
  let v128 : BitVec 1 := Scalar.cmpi .ne v2 c18_i32_137
  let v129 : BitVec 32 := Scalar.extui v128
  let c0_i32_138 : BitVec 32 := 0#32
  let v130 : BitVec 1 := Scalar.cmpi .ne v129 c0_i32_138
  v130

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_dev51 : Nat :=
  let c0_i32_653 : BitVec 32 := 0#32
  let c18_i32_651 : BitVec 32 := 18#32
  let c1_i32_652 : BitVec 32 := 1#32
  let v677 : BitVec 32 := Scalar.muli c18_i32_651 c1_i32_652
  let v678 : BitVec 32 := Scalar.addi c0_i32_653 v677
  v678.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_139 : BitVec 32 := 19#32
  let v131 : BitVec 1 := Scalar.cmpi .ne v2 c19_i32_139
  let v132 : BitVec 32 := Scalar.extui v131
  let c0_i32_140 : BitVec 32 := 0#32
  let v133 : BitVec 1 := Scalar.cmpi .ne v132 c0_i32_140
  v133

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_dev52 : Nat :=
  let c0_i32_653 : BitVec 32 := 0#32
  let c19_i32_651 : BitVec 32 := 19#32
  let c1_i32_652 : BitVec 32 := 1#32
  let v677 : BitVec 32 := Scalar.muli c19_i32_651 c1_i32_652
  let v678 : BitVec 32 := Scalar.addi c0_i32_653 v677
  v678.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_141 : BitVec 32 := 20#32
  let v134 : BitVec 1 := Scalar.cmpi .ne v2 c20_i32_141
  let v135 : BitVec 32 := Scalar.extui v134
  let c0_i32_142 : BitVec 32 := 0#32
  let v136 : BitVec 1 := Scalar.cmpi .ne v135 c0_i32_142
  v136

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_dev53 : Nat :=
  let c0_i32_653 : BitVec 32 := 0#32
  let c20_i32_651 : BitVec 32 := 20#32
  let c1_i32_652 : BitVec 32 := 1#32
  let v677 : BitVec 32 := Scalar.muli c20_i32_651 c1_i32_652
  let v678 : BitVec 32 := Scalar.addi c0_i32_653 v677
  v678.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_143 : BitVec 32 := 21#32
  let v137 : BitVec 1 := Scalar.cmpi .ne v2 c21_i32_143
  let v138 : BitVec 32 := Scalar.extui v137
  let c0_i32_144 : BitVec 32 := 0#32
  let v139 : BitVec 1 := Scalar.cmpi .ne v138 c0_i32_144
  v139

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_dev54 : Nat :=
  let c0_i32_653 : BitVec 32 := 0#32
  let c21_i32_651 : BitVec 32 := 21#32
  let c1_i32_652 : BitVec 32 := 1#32
  let v677 : BitVec 32 := Scalar.muli c21_i32_651 c1_i32_652
  let v678 : BitVec 32 := Scalar.addi c0_i32_653 v677
  v678.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_145 : BitVec 32 := 22#32
  let v140 : BitVec 1 := Scalar.cmpi .ne v2 c22_i32_145
  let v141 : BitVec 32 := Scalar.extui v140
  let c0_i32_146 : BitVec 32 := 0#32
  let v142 : BitVec 1 := Scalar.cmpi .ne v141 c0_i32_146
  v142

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_dev55 : Nat :=
  let c0_i32_653 : BitVec 32 := 0#32
  let c22_i32_651 : BitVec 32 := 22#32
  let c1_i32_652 : BitVec 32 := 1#32
  let v677 : BitVec 32 := Scalar.muli c22_i32_651 c1_i32_652
  let v678 : BitVec 32 := Scalar.addi c0_i32_653 v677
  v678.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_147 : BitVec 32 := 23#32
  let v143 : BitVec 1 := Scalar.cmpi .ne v2 c23_i32_147
  let v144 : BitVec 32 := Scalar.extui v143
  let c0_i32_148 : BitVec 32 := 0#32
  let v145 : BitVec 1 := Scalar.cmpi .ne v144 c0_i32_148
  v145

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_dev56 : Nat :=
  let c0_i32_653 : BitVec 32 := 0#32
  let c23_i32_651 : BitVec 32 := 23#32
  let c1_i32_652 : BitVec 32 := 1#32
  let v677 : BitVec 32 := Scalar.muli c23_i32_651 c1_i32_652
  let v678 : BitVec 32 := Scalar.addi c0_i32_653 v677
  v678.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_149 : BitVec 32 := 24#32
  let v146 : BitVec 1 := Scalar.cmpi .ne v2 c24_i32_149
  let v147 : BitVec 32 := Scalar.extui v146
  let c0_i32_150 : BitVec 32 := 0#32
  let v148 : BitVec 1 := Scalar.cmpi .ne v147 c0_i32_150
  v148

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_dev57 : Nat :=
  let c0_i32_653 : BitVec 32 := 0#32
  let c24_i32_651 : BitVec 32 := 24#32
  let c1_i32_652 : BitVec 32 := 1#32
  let v677 : BitVec 32 := Scalar.muli c24_i32_651 c1_i32_652
  let v678 : BitVec 32 := Scalar.addi c0_i32_653 v677
  v678.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_151 : BitVec 32 := 25#32
  let v149 : BitVec 1 := Scalar.cmpi .ne v2 c25_i32_151
  let v150 : BitVec 32 := Scalar.extui v149
  let c0_i32_152 : BitVec 32 := 0#32
  let v151 : BitVec 1 := Scalar.cmpi .ne v150 c0_i32_152
  v151

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off52 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_dev58 : Nat :=
  let c0_i32_653 : BitVec 32 := 0#32
  let c25_i32_651 : BitVec 32 := 25#32
  let c1_i32_652 : BitVec 32 := 1#32
  let v677 : BitVec 32 := Scalar.muli c25_i32_651 c1_i32_652
  let v678 : BitVec 32 := Scalar.addi c0_i32_653 v677
  v678.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_153 : BitVec 32 := 26#32
  let v152 : BitVec 1 := Scalar.cmpi .ne v2 c26_i32_153
  let v153 : BitVec 32 := Scalar.extui v152
  let c0_i32_154 : BitVec 32 := 0#32
  let v154 : BitVec 1 := Scalar.cmpi .ne v153 c0_i32_154
  v154

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_dev59 : Nat :=
  let c0_i32_653 : BitVec 32 := 0#32
  let c26_i32_651 : BitVec 32 := 26#32
  let c1_i32_652 : BitVec 32 := 1#32
  let v677 : BitVec 32 := Scalar.muli c26_i32_651 c1_i32_652
  let v678 : BitVec 32 := Scalar.addi c0_i32_653 v677
  v678.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_155 : BitVec 32 := 27#32
  let v155 : BitVec 1 := Scalar.cmpi .ne v2 c27_i32_155
  let v156 : BitVec 32 := Scalar.extui v155
  let c0_i32_156 : BitVec 32 := 0#32
  let v157 : BitVec 1 := Scalar.cmpi .ne v156 c0_i32_156
  v157

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_dev60 : Nat :=
  let c0_i32_653 : BitVec 32 := 0#32
  let c27_i32_651 : BitVec 32 := 27#32
  let c1_i32_652 : BitVec 32 := 1#32
  let v677 : BitVec 32 := Scalar.muli c27_i32_651 c1_i32_652
  let v678 : BitVec 32 := Scalar.addi c0_i32_653 v677
  v678.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_157 : BitVec 32 := 28#32
  let v158 : BitVec 1 := Scalar.cmpi .ne v2 c28_i32_157
  let v159 : BitVec 32 := Scalar.extui v158
  let c0_i32_158 : BitVec 32 := 0#32
  let v160 : BitVec 1 := Scalar.cmpi .ne v159 c0_i32_158
  v160

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_dev61 : Nat :=
  let c0_i32_653 : BitVec 32 := 0#32
  let c28_i32_651 : BitVec 32 := 28#32
  let c1_i32_652 : BitVec 32 := 1#32
  let v677 : BitVec 32 := Scalar.muli c28_i32_651 c1_i32_652
  let v678 : BitVec 32 := Scalar.addi c0_i32_653 v677
  v678.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_159 : BitVec 32 := 29#32
  let v161 : BitVec 1 := Scalar.cmpi .ne v2 c29_i32_159
  let v162 : BitVec 32 := Scalar.extui v161
  let c0_i32_160 : BitVec 32 := 0#32
  let v163 : BitVec 1 := Scalar.cmpi .ne v162 c0_i32_160
  v163

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_dev62 : Nat :=
  let c0_i32_653 : BitVec 32 := 0#32
  let c29_i32_651 : BitVec 32 := 29#32
  let c1_i32_652 : BitVec 32 := 1#32
  let v677 : BitVec 32 := Scalar.muli c29_i32_651 c1_i32_652
  let v678 : BitVec 32 := Scalar.addi c0_i32_653 v677
  v678.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_161 : BitVec 32 := 30#32
  let v164 : BitVec 1 := Scalar.cmpi .ne v2 c30_i32_161
  let v165 : BitVec 32 := Scalar.extui v164
  let c0_i32_162 : BitVec 32 := 0#32
  let v166 : BitVec 1 := Scalar.cmpi .ne v165 c0_i32_162
  v166

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_dev63 : Nat :=
  let c0_i32_653 : BitVec 32 := 0#32
  let c30_i32_651 : BitVec 32 := 30#32
  let c1_i32_652 : BitVec 32 := 1#32
  let v677 : BitVec 32 := Scalar.muli c30_i32_651 c1_i32_652
  let v678 : BitVec 32 := Scalar.addi c0_i32_653 v677
  v678.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_163 : BitVec 32 := 31#32
  let v167 : BitVec 1 := Scalar.cmpi .ne v2 c31_i32_163
  let v168 : BitVec 32 := Scalar.extui v167
  let c0_i32_164 : BitVec 32 := 0#32
  let v169 : BitVec 1 := Scalar.cmpi .ne v168 c0_i32_164
  v169

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off64 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_dev64 : Nat :=
  let c0_i32_653 : BitVec 32 := 0#32
  let c31_i32_651 : BitVec 32 := 31#32
  let c1_i32_652 : BitVec 32 := 1#32
  let v677 : BitVec 32 := Scalar.muli c31_i32_651 c1_i32_652
  let v678 : BitVec 32 := Scalar.addi c0_i32_653 v677
  v678.toNat
def k0_off65 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v170 : BitVec 32 := Scalar.muli v2 c128_i32
  let v171 : Index := Scalar.indexCast v170
  let c0_165 : Index := 0#32
  ![v171.toNat, 0]
def k0_off66 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v173 : Index := Scalar.indexCast v2
  let c0_166 : Index := 0#32
  let c0_167 : Index := 0#32
  ![v173.toNat, 0, 0]
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_586 : BitVec 32 := 0#32
  let v581 : BitVec 1 := Scalar.cmpi .ne v2 c0_i32_586
  let v582 : BitVec 32 := Scalar.extui v581
  let c0_i32_587 : BitVec 32 := 0#32
  let v583 : BitVec 1 := Scalar.cmpi .ne v582 c0_i32_587
  v583

def k0_off67 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_655 : BitVec 32 := 0#32
  let c0_i32_656 : BitVec 32 := 0#32
  ![v2.toNat, 0, 0]
def k0_cond66 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_588 : BitVec 32 := 1#32
  let v584 : BitVec 1 := Scalar.cmpi .ne v2 c1_i32_588
  let v585 : BitVec 32 := Scalar.extui v584
  let c0_i32_589 : BitVec 32 := 0#32
  let v586 : BitVec 1 := Scalar.cmpi .ne v585 c0_i32_589
  v586

def k0_off68 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_655 : BitVec 32 := 0#32
  let c0_i32_656 : BitVec 32 := 0#32
  ![v2.toNat, 0, 0]
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_590 : BitVec 32 := 2#32
  let v587 : BitVec 1 := Scalar.cmpi .ne v2 c2_i32_590
  let v588 : BitVec 32 := Scalar.extui v587
  let c0_i32_591 : BitVec 32 := 0#32
  let v589 : BitVec 1 := Scalar.cmpi .ne v588 c0_i32_591
  v589

def k0_off69 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_592 : BitVec 32 := 3#32
  let v590 : BitVec 1 := Scalar.cmpi .ne v2 c3_i32_592
  let v591 : BitVec 32 := Scalar.extui v590
  let c0_i32_593 : BitVec 32 := 0#32
  let v592 : BitVec 1 := Scalar.cmpi .ne v591 c0_i32_593
  v592

def k0_off70 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_594 : BitVec 32 := 4#32
  let v593 : BitVec 1 := Scalar.cmpi .ne v2 c4_i32_594
  let v594 : BitVec 32 := Scalar.extui v593
  let c0_i32_595 : BitVec 32 := 0#32
  let v595 : BitVec 1 := Scalar.cmpi .ne v594 c0_i32_595
  v595

def k0_off71 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_655 : BitVec 32 := 0#32
  let c0_i32_656 : BitVec 32 := 0#32
  ![v2.toNat, 0, 0]
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_596 : BitVec 32 := 5#32
  let v596 : BitVec 1 := Scalar.cmpi .ne v2 c5_i32_596
  let v597 : BitVec 32 := Scalar.extui v596
  let c0_i32_597 : BitVec 32 := 0#32
  let v598 : BitVec 1 := Scalar.cmpi .ne v597 c0_i32_597
  v598

def k0_off72 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_598 : BitVec 32 := 6#32
  let v599 : BitVec 1 := Scalar.cmpi .ne v2 c6_i32_598
  let v600 : BitVec 32 := Scalar.extui v599
  let c0_i32_599 : BitVec 32 := 0#32
  let v601 : BitVec 1 := Scalar.cmpi .ne v600 c0_i32_599
  v601

def k0_off73 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_cond72 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_600 : BitVec 32 := 7#32
  let v602 : BitVec 1 := Scalar.cmpi .ne v2 c7_i32_600
  let v603 : BitVec 32 := Scalar.extui v602
  let c0_i32_601 : BitVec 32 := 0#32
  let v604 : BitVec 1 := Scalar.cmpi .ne v603 c0_i32_601
  v604

def k0_off74 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_602 : BitVec 32 := 8#32
  let v605 : BitVec 1 := Scalar.cmpi .ne v2 c8_i32_602
  let v606 : BitVec 32 := Scalar.extui v605
  let c0_i32_603 : BitVec 32 := 0#32
  let v607 : BitVec 1 := Scalar.cmpi .ne v606 c0_i32_603
  v607

def k0_off75 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_655 : BitVec 32 := 0#32
  let c0_i32_656 : BitVec 32 := 0#32
  ![v2.toNat, 0, 0]
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_604 : BitVec 32 := 9#32
  let v608 : BitVec 1 := Scalar.cmpi .ne v2 c9_i32_604
  let v609 : BitVec 32 := Scalar.extui v608
  let c0_i32_605 : BitVec 32 := 0#32
  let v610 : BitVec 1 := Scalar.cmpi .ne v609 c0_i32_605
  v610

def k0_off76 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_606 : BitVec 32 := 10#32
  let v611 : BitVec 1 := Scalar.cmpi .ne v2 c10_i32_606
  let v612 : BitVec 32 := Scalar.extui v611
  let c0_i32_607 : BitVec 32 := 0#32
  let v613 : BitVec 1 := Scalar.cmpi .ne v612 c0_i32_607
  v613

def k0_off77 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_cond76 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_608 : BitVec 32 := 11#32
  let v614 : BitVec 1 := Scalar.cmpi .ne v2 c11_i32_608
  let v615 : BitVec 32 := Scalar.extui v614
  let c0_i32_609 : BitVec 32 := 0#32
  let v616 : BitVec 1 := Scalar.cmpi .ne v615 c0_i32_609
  v616

def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_610 : BitVec 32 := 12#32
  let v617 : BitVec 1 := Scalar.cmpi .ne v2 c12_i32_610
  let v618 : BitVec 32 := Scalar.extui v617
  let c0_i32_611 : BitVec 32 := 0#32
  let v619 : BitVec 1 := Scalar.cmpi .ne v618 c0_i32_611
  v619

def k0_off79 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_655 : BitVec 32 := 0#32
  let c0_i32_656 : BitVec 32 := 0#32
  ![v2.toNat, 0, 0]
def k0_cond78 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_612 : BitVec 32 := 13#32
  let v620 : BitVec 1 := Scalar.cmpi .ne v2 c13_i32_612
  let v621 : BitVec 32 := Scalar.extui v620
  let c0_i32_613 : BitVec 32 := 0#32
  let v622 : BitVec 1 := Scalar.cmpi .ne v621 c0_i32_613
  v622

def k0_off80 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_614 : BitVec 32 := 14#32
  let v623 : BitVec 1 := Scalar.cmpi .ne v2 c14_i32_614
  let v624 : BitVec 32 := Scalar.extui v623
  let c0_i32_615 : BitVec 32 := 0#32
  let v625 : BitVec 1 := Scalar.cmpi .ne v624 c0_i32_615
  v625

def k0_off81 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_616 : BitVec 32 := 15#32
  let v626 : BitVec 1 := Scalar.cmpi .ne v2 c15_i32_616
  let v627 : BitVec 32 := Scalar.extui v626
  let c0_i32_617 : BitVec 32 := 0#32
  let v628 : BitVec 1 := Scalar.cmpi .ne v627 c0_i32_617
  v628

def k0_off82 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_618 : BitVec 32 := 16#32
  let v629 : BitVec 1 := Scalar.cmpi .ne v2 c16_i32_618
  let v630 : BitVec 32 := Scalar.extui v629
  let c0_i32_619 : BitVec 32 := 0#32
  let v631 : BitVec 1 := Scalar.cmpi .ne v630 c0_i32_619
  v631

def k0_off83 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_655 : BitVec 32 := 0#32
  let c0_i32_656 : BitVec 32 := 0#32
  ![v2.toNat, 0, 0]
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_620 : BitVec 32 := 17#32
  let v632 : BitVec 1 := Scalar.cmpi .ne v2 c17_i32_620
  let v633 : BitVec 32 := Scalar.extui v632
  let c0_i32_621 : BitVec 32 := 0#32
  let v634 : BitVec 1 := Scalar.cmpi .ne v633 c0_i32_621
  v634

def k0_off84 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_622 : BitVec 32 := 18#32
  let v635 : BitVec 1 := Scalar.cmpi .ne v2 c18_i32_622
  let v636 : BitVec 32 := Scalar.extui v635
  let c0_i32_623 : BitVec 32 := 0#32
  let v637 : BitVec 1 := Scalar.cmpi .ne v636 c0_i32_623
  v637

def k0_off85 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_cond84 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_624 : BitVec 32 := 19#32
  let v638 : BitVec 1 := Scalar.cmpi .ne v2 c19_i32_624
  let v639 : BitVec 32 := Scalar.extui v638
  let c0_i32_625 : BitVec 32 := 0#32
  let v640 : BitVec 1 := Scalar.cmpi .ne v639 c0_i32_625
  v640

def k0_off86 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_626 : BitVec 32 := 20#32
  let v641 : BitVec 1 := Scalar.cmpi .ne v2 c20_i32_626
  let v642 : BitVec 32 := Scalar.extui v641
  let c0_i32_627 : BitVec 32 := 0#32
  let v643 : BitVec 1 := Scalar.cmpi .ne v642 c0_i32_627
  v643

def k0_off87 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_655 : BitVec 32 := 0#32
  let c0_i32_656 : BitVec 32 := 0#32
  ![v2.toNat, 0, 0]
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_628 : BitVec 32 := 21#32
  let v644 : BitVec 1 := Scalar.cmpi .ne v2 c21_i32_628
  let v645 : BitVec 32 := Scalar.extui v644
  let c0_i32_629 : BitVec 32 := 0#32
  let v646 : BitVec 1 := Scalar.cmpi .ne v645 c0_i32_629
  v646

def k0_off88 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_630 : BitVec 32 := 22#32
  let v647 : BitVec 1 := Scalar.cmpi .ne v2 c22_i32_630
  let v648 : BitVec 32 := Scalar.extui v647
  let c0_i32_631 : BitVec 32 := 0#32
  let v649 : BitVec 1 := Scalar.cmpi .ne v648 c0_i32_631
  v649

def k0_off89 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_632 : BitVec 32 := 23#32
  let v650 : BitVec 1 := Scalar.cmpi .ne v2 c23_i32_632
  let v651 : BitVec 32 := Scalar.extui v650
  let c0_i32_633 : BitVec 32 := 0#32
  let v652 : BitVec 1 := Scalar.cmpi .ne v651 c0_i32_633
  v652

def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_634 : BitVec 32 := 24#32
  let v653 : BitVec 1 := Scalar.cmpi .ne v2 c24_i32_634
  let v654 : BitVec 32 := Scalar.extui v653
  let c0_i32_635 : BitVec 32 := 0#32
  let v655 : BitVec 1 := Scalar.cmpi .ne v654 c0_i32_635
  v655

def k0_off91 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_655 : BitVec 32 := 0#32
  let c0_i32_656 : BitVec 32 := 0#32
  ![v2.toNat, 0, 0]
def k0_cond90 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_636 : BitVec 32 := 25#32
  let v656 : BitVec 1 := Scalar.cmpi .ne v2 c25_i32_636
  let v657 : BitVec 32 := Scalar.extui v656
  let c0_i32_637 : BitVec 32 := 0#32
  let v658 : BitVec 1 := Scalar.cmpi .ne v657 c0_i32_637
  v658

def k0_off92 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_638 : BitVec 32 := 26#32
  let v659 : BitVec 1 := Scalar.cmpi .ne v2 c26_i32_638
  let v660 : BitVec 32 := Scalar.extui v659
  let c0_i32_639 : BitVec 32 := 0#32
  let v661 : BitVec 1 := Scalar.cmpi .ne v660 c0_i32_639
  v661

def k0_off93 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_640 : BitVec 32 := 27#32
  let v662 : BitVec 1 := Scalar.cmpi .ne v2 c27_i32_640
  let v663 : BitVec 32 := Scalar.extui v662
  let c0_i32_641 : BitVec 32 := 0#32
  let v664 : BitVec 1 := Scalar.cmpi .ne v663 c0_i32_641
  v664

def k0_off94 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_642 : BitVec 32 := 28#32
  let v665 : BitVec 1 := Scalar.cmpi .ne v2 c28_i32_642
  let v666 : BitVec 32 := Scalar.extui v665
  let c0_i32_643 : BitVec 32 := 0#32
  let v667 : BitVec 1 := Scalar.cmpi .ne v666 c0_i32_643
  v667

def k0_off95 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_655 : BitVec 32 := 0#32
  let c0_i32_656 : BitVec 32 := 0#32
  ![v2.toNat, 0, 0]
def k0_cond94 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_644 : BitVec 32 := 29#32
  let v668 : BitVec 1 := Scalar.cmpi .ne v2 c29_i32_644
  let v669 : BitVec 32 := Scalar.extui v668
  let c0_i32_645 : BitVec 32 := 0#32
  let v670 : BitVec 1 := Scalar.cmpi .ne v669 c0_i32_645
  v670

def k0_off96 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_646 : BitVec 32 := 30#32
  let v671 : BitVec 1 := Scalar.cmpi .ne v2 c30_i32_646
  let v672 : BitVec 32 := Scalar.extui v671
  let c0_i32_647 : BitVec 32 := 0#32
  let v673 : BitVec 1 := Scalar.cmpi .ne v672 c0_i32_647
  v673

def k0_off97 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
def k0_cond96 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_648 : BitVec 32 := 31#32
  let v674 : BitVec 1 := Scalar.cmpi .ne v2 c31_i32_648
  let v675 : BitVec 32 := Scalar.extui v674
  let c0_i32_649 : BitVec 32 := 0#32
  let v676 : BitVec 1 := Scalar.cmpi .ne v675 c0_i32_649
  v676

def k0_off98 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let c0_i32_655 : BitVec 32 := 0#32
  ![v2.toNat, 0, 0]
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.KernelIdeal.Steps.lean ====
/-
The kernel body as a program over loops: every operation of the printed body is one of a dozen steps
that read the device, a peer `j : Fin 32`, a chunk of the contraction `k : Fin 8` or a half of a chunk's
rows of the second factor. This module names the steps, shows each printed part to be a sequence of them,
and puts the body together as loops over the peers and the chunks.
-/
module

public import proofs.«01_k».proof.Proof.Gen.KernelIdeal.Skeleton
public import proofs.«01_k».proof.Proof.Gen.KernelIdeal.Points

@[expose] public section

set_option synthInstance.maxSize 4096

noncomputable section

namespace Cert.KernelIdeal.AG

open Idealize.ShloMosaic Idealize.SL.Sem
open Cert.KernelIdeal.Gen

variable {F : FTy → Type} [FloatOps F]

/-- A program of the kernel's TensorCore. -/
abbrev P (F : FTy → Type) [FloatOps F] (α : Type) := Prog (TpuEff nD τ sig (Elt F) Λ₀ .tc) α

/-! ## The buffers and their pieces -/

/-- The device's block of the first factor, staged. -/
abbrev xM : Memref sig .tc .vmem S4096x128 .f32 := Memref.whole cc0_stg0_0
/-- The second factor, in the device's main memory. -/
abbrev wM : Memref sig .tc .hbm S4096x8192 .f32 := Memref.whole main_arg1
/-- The first scale, staged. -/
abbrev sxM : Memref sig .tc .smem S1 .f32 := Memref.whole cc0_stg1_0
/-- The second scale, staged. -/
abbrev swM : Memref sig .tc .smem S1 .f32 := Memref.whole cc0_stg2_0
/-- The output block, staged. -/
abbrev oM : Memref sig .tc .vmem S128x8192 .f32 := Memref.whole cc0_stg3_0
/-- The narrowed block of the first factor, which the sends read. -/
abbrev qM : Memref sig .tc .vmem S4096x128 .fp8e4m3 := Memref.whole cc0_scratch0
/-- The landing slots, one per device. -/
abbrev rM : Memref sig .tc .vmem S32x128x128 .fp8e4m3 := Memref.whole cc0_scratch1
/-- The two buffers the chunks of the second factor land in. -/
abbrev bM : Memref sig .tc .vmem S2x512x8192 .f32 := Memref.whole cc0_scratch2

theorem hqM : qM.IsWhole := Memref.isWhole_whole _
theorem hrM : rM.IsWhole := Memref.isWhole_whole _

theorem inbQ (j : Fin 32) : ∀ a, (![128 * j.val, 0] : Fin 2 → Nat) a + S128x128.size a ≤ S4096x128.size a := by
  revert j; decide
theorem inbR (j : Fin 32) : ∀ a, (![j.val, 0, 0] : Fin 3 → Nat) a + S1x128x128.size a ≤ S32x128x128.size a := by
  revert j; decide
theorem inbS (j : Fin 32) : ∀ a, (![j.val] : Fin 1 → Nat) a + S1.size a ≤ S32.size a := by
  revert j; decide
theorem inbT (s h : Fin 2) : ∀ a, (![s.val, h.val] : Fin 2 → Nat) a + S1x1.size a ≤ S2x2.size a := by
  revert s h; decide
theorem inbW (k : Fin 8) (h : Fin 2) :
    ∀ a, (![512 * k.val, 4096 * h.val] : Fin 2 → Nat) a + S512x4096.size a ≤ S4096x8192.size a := by
  revert k h; decide
theorem inbB (s h : Fin 2) :
    ∀ a, (![s.val, 0, 4096 * h.val] : Fin 3 → Nat) a + S1x512x4096.size a ≤ S2x512x8192.size a := by
  revert s h; decide
theorem inbL (s : Fin 2) :
    ∀ a, (![s.val, 0, 0] : Fin 3 → Nat) a + S1x512x8192.size a ≤ S2x512x8192.size a := by
  revert s; decide

theorem wordsQ (j : Fin 32) :
    (Rect.unit (s := S4096x128) ![128 * j.val, 0] S128x128.size (inbQ j)).WholeWords (EltTy.packing .fp8e4m3) := by
  revert j; decide
theorem wordsR (j : Fin 32) :
    (Rect.unit (s := S32x128x128) ![j.val, 0, 0] S1x128x128.size (inbR j)).WholeWords (EltTy.packing .fp8e4m3) := by
  revert j; decide

/-- Rows `128 j ..` of the narrowed block: what device `j` is sent. -/
abbrev qPiece (j : Fin 32) : Memref sig .tc .vmem S128x128 .fp8e4m3 :=
  qM.slice (Rect.unit (s := S4096x128) ![128 * j.val, 0] S128x128.size (inbQ j)) (fun _ => rfl)

/-- The landing slot at offset `o`. -/
abbrev slotAt (o : Fin 3 → Nat) (h : ∀ a, o a + S1x128x128.size a ≤ S32x128x128.size a) :
    Memref sig .tc .vmem S128x128 .fp8e4m3 :=
  (rM.slice (Rect.unit (s := S32x128x128) o S1x128x128.size h) (fun _ => rfl)).squeeze S128x128
    squeezes_S1x128x128_S128x128

/-- The landing slot of device `j`. -/
abbrev slot (j : Fin 32) : Memref sig .tc .vmem S128x128 .fp8e4m3 := slotAt ![j.val, 0, 0] (inbR j)

/-- The semaphore at offset `o` of an array of 32. -/
abbrev semAt (a : DmaSems sig S32) (o : Fin 1 → Nat) (h : ∀ a, o a + S1.size a ≤ S32.size a) : DmaSem sig :=
  ((a.slice (Rect.unit (s := S32) o S1.size h)).squeeze S_ squeezes_S1_S_).sem

/-- The send semaphore of the copy to device `j`. -/
abbrev sendS (j : Fin 32) : DmaSem sig := semAt cc0_scratch3 ![j.val] (inbS j)
/-- The receive semaphore of the copy from device `j`. -/
abbrev recvS (j : Fin 32) : DmaSem sig := semAt cc0_scratch4 ![j.val] (inbS j)
/-- The semaphore of the copies into half `h` of buffer `s`. -/
abbrev wS (s h : Fin 2) : DmaSem sig :=
  ((cc0_scratch5.slice (Rect.unit (s := S2x2) ![s.val, h.val] S1x1.size (inbT s h))).squeeze S_ squeezes_S1x1_S_).sem

/-- Half `h` of the rows of chunk `k` of the second factor. -/
abbrev wPiece (k : Fin 8) (h : Fin 2) : Memref sig .tc .hbm S512x4096 .f32 :=
  wM.slice (Rect.unit (s := S4096x8192) ![512 * k.val, 4096 * h.val] S512x4096.size (inbW k h)) (fun _ => rfl)

/-- Half `h` of buffer `s`. -/
abbrev bPiece (s h : Fin 2) : Memref sig .tc .vmem S512x4096 .f32 :=
  (bM.slice (Rect.unit (s := S2x512x8192) ![s.val, 0, 4096 * h.val] S1x512x4096.size (inbB s h)) (fun _ => rfl)).squeeze
    S512x4096 squeezes_S1x512x4096_S512x4096

/-- The buffer chunk `k` lands in. -/
abbrev slotOf (k : Fin 8) : Fin 2 := ⟨k.val % 2, Nat.mod_lt _ (by decide)⟩

/-! ## The steps -/

/-- The runtime's barrier semaphore. -/
abbrev barS : Sem sig := (SemArray.scalar (sig.barrier 0 rfl) : Sems sig S_).sem

/-- The device's index as the kernel computes it. -/
abbrev meW (d : Dev nD) : BitVec 32 := Scalar.remsi (Scalar.divsi (Dev.word d) 1#32) 32#32

/-- Signal device `j`'s barrier semaphore once. -/
def sigStep (j : Fin 32) : P F PUnit := semSignalWord (⟨j.val, j.isLt⟩ : Dev nD) barS 1#32

/-- Wait for the 32 signals. -/
def barWait : P F PUnit := semWaitWord barS 32#32

/-- The whole block of the first factor, loaded. -/
def loadX : P F (Vec F S4096x128 .f32) :=
  Prog.lift (.load xM (Rect.unit (s := S4096x128) ![0, 0] S4096x128.size inb_S4096x128_S4096x128_0_0).toLoadRect
    (View.loadsAt_vmem h_S4096x128))

/-- The whole narrowed block, loaded (a load whose value nothing reads). -/
def loadQ : P F (Vec F S4096x128 .fp8e4m3) :=
  Prog.lift (.load qM (Rect.unit (s := S4096x128) ![0, 0] S4096x128.size inb_S4096x128_S4096x128_0_0).toLoadRect
    (View.loadsAt_vmem h_S4096x128))

/-- The narrowed block, stored. -/
def storeQ (v : FVec F S4096x128 .fp8e4m3) : P F PUnit :=
  Prog.lift (.store qM (Rect.unit (s := S4096x128) ![0, 0] S4096x128.size inb_S4096x128_S4096x128_0_0) v Finset.univ
    (View.stores_vmem h_S4096x128 (hqM.storeExact_slice rfl _ packedfp8e4m3_S4096x128_S4096x128_0_0) (fun _ => rfl))
    (.inl rfl))

/-- Whether the word `w`, a comparison widened, is on. -/
abbrev onW (w : BitVec 32) : BitVec 1 := Scalar.cmpi .ne w 0#32

/-- Whether the device is another than `j`, as a widened comparison. -/
abbrev neW (v : BitVec 32) (j : Fin 32) : BitVec 32 := Scalar.extui (Scalar.cmpi .ne v (BitVec.ofNat 32 j.val))

theorem off1_inb (d : Dev nD) : ∀ a, (k0_off1 d) a + S1.size a ≤ S32.size a := by
  rw [k0_off1_eq]; exact inbS d
theorem off2_inb (d : Dev nD) : ∀ a, (k0_off2 d) a + S1x128x128.size a ≤ S32x128x128.size a := by
  rw [k0_off2_eq]; exact inbR d
theorem off2_words (d : Dev nD) :
    (Rect.unit (s := S32x128x128) (k0_off2 d) S1x128x128.size (off2_inb d)).WholeWords (EltTy.packing .fp8e4m3) := by
  have h : ∀ (o : Fin 3 → Nat) (e : o = ![d.val, 0, 0]) (hi : ∀ a, o a + S1x128x128.size a ≤ S32x128x128.size a),
      (Rect.unit (s := S32x128x128) o S1x128x128.size hi).WholeWords (EltTy.packing .fp8e4m3) := by
    rintro o rfl hi; exact wordsR d
  exact h _ (k0_off2_eq d) _

/-- Send device `j` its rows, into this device's slot there, unless `j` is this device. -/
def sendStep (d : Dev nD) (j : Fin 32) : P F PUnit :=
  if _h : onW (neW (meW d) j) = 1#1 then do
    Prog.lift (.enqueueDma (qPiece j)
      (.remote (Dev.tc (⟨j.val, j.isLt⟩ : Dev nD)) (slotAt (k0_off2 d) (off2_inb d)) (.dma (sendS j)))
      (.dma (semAt cc0_scratch4 (k0_off1 d) (off1_inb d)))
      (hqM.wordExact_slice rfl _ (wordsQ j)) ((hrM.wordExact_slice rfl _ (off2_words d)).reshape _ _)
      ⟨⟨rfl, Or.inl rfl⟩, trivial⟩)
    pure ⟨⟩
  else pure ⟨⟩

/-- Wait for the copy from device `j`; `w` says whether `j` is another device. -/
def recvW (w : BitVec 32) (j : Fin 32) : P F PUnit :=
  if _h : onW w = 1#1 then do
    Prog.lift (.waitDma2 (recvS j) (qPiece 0) (slot j) (hqM.wordExact_slice rfl _ (wordsQ 0))
      ((hrM.wordExact_slice rfl _ (wordsR j)).reshape _ _))
    pure ⟨⟩
  else pure ⟨⟩

/-- Wait for the copy from device `j`, unless `j` is this device. -/
def recvStep (v : BitVec 32) (j : Fin 32) : P F PUnit := recvW (neW v j) j

/-- Wait for the copy to device `j` to have left, unless `j` is this device. -/
def sendWait (d : Dev nD) (j : Fin 32) : P F PUnit :=
  if _h : onW (neW (meW d) j) = 1#1 then do
    Prog.lift (.waitDma2 (sendS j) (slotAt (k0_off2 d) (off2_inb d)) (qPiece j)
      ((hrM.wordExact_slice rfl _ (off2_words d)).reshape _ _) (hqM.wordExact_slice rfl _ (wordsQ j)))
    pure ⟨⟩
  else pure ⟨⟩

/-- The device's own rows, loaded from the narrowed block. -/
def loadOwn (d : Dev nD) : P F (Vec F S128x128 .fp8e4m3) :=
  Prog.lift (.load qM (Rect.unit (s := S4096x128) (k0_off65 d) S128x128.size (k0_off65_inb d)).toLoadRect
    (View.loadsAt_vmem h_S128x128))

/-- The device's own slot, loaded (a load whose value nothing reads). -/
def loadOwnSlot (d : Dev nD) : P F (Vec F S1x128x128 .fp8e4m3) :=
  Prog.lift (.load rM (Rect.unit (s := S32x128x128) (k0_off66 d) S1x128x128.size (k0_off66_inb d)).toLoadRect
    (View.loadsAt_vmem h_S1x128x128))

/-- The device's own rows, stored into its own slot. -/
def storeOwn (d : Dev nD) (v : FVec F S1x128x128 .fp8e4m3) : P F PUnit :=
  Prog.lift (.store rM (Rect.unit (s := S32x128x128) (k0_off66 d) S1x128x128.size (k0_off66_inb d)) v Finset.univ
    (View.stores_vmem h_S1x128x128 (hrM.storeExact_slice rfl _ (k0_off66_packedfp8e4m3 d)) (fun _ => rfl)) (.inl rfl))

/-- Start the copy of half `h` of chunk `k` of the second factor. -/
def wStart (k : Fin 8) (h : Fin 2) : P F PUnit :=
  Prog.lift (.enqueueDma (wPiece k h) (.here (bPiece (slotOf k) h)) (.dma (wS (slotOf k) h))
    (View.wordExact_bits rfl) ((View.wordExact_bits rfl).reshape _ _) ⟨Or.inl rfl, trivial⟩)

/-- Wait for it. -/
def wWait (k : Fin 8) (h : Fin 2) : P F PUnit :=
  Prog.lift (.waitDma2 (wS (slotOf k) h) (wPiece k h) (bPiece (slotOf k) h)
    (View.wordExact_bits rfl) ((View.wordExact_bits rfl).reshape _ _))

/-- Load slot `j`. -/
def loadSlot (j : Fin 32) : P F (Vec F S1x128x128 .fp8e4m3) :=
  Prog.lift (.load rM (Rect.unit (s := S32x128x128) ![j.val, 0, 0] S1x128x128.size (inbR j)).toLoadRect
    (View.loadsAt_vmem h_S1x128x128))

/-- Load buffer `s` of the second factor. -/
def loadW (s : Fin 2) : P F (Vec F S1x512x8192 .f32) :=
  Prog.lift (.load bM (Rect.unit (s := S2x512x8192) ![s.val, 0, 0] S1x512x8192.size (inbL s)).toLoadRect
    (View.loadsAt_vmem h_S1x512x8192))

/-- Load the output block. -/
def loadO : P F (Vec F S128x8192 .f32) :=
  Prog.lift (.load oM (Rect.unit (s := S128x8192) ![0, 0] S128x8192.size inb_S128x8192_S128x8192_0_0).toLoadRect
    (View.loadsAt_vmem h_S128x8192))

/-- Store the output block. -/
def storeO (v : FVec F S128x8192 .f32) : P F PUnit :=
  Prog.lift (.store oM (Rect.unit (s := S128x8192) ![0, 0] S128x8192.size inb_S128x8192_S128x8192_0_0) v Finset.univ
    (View.stores_vmem_bits_univ h_S128x8192 rfl) (.inl rfl))

/-- Load the first scale. -/
def loadSx : P F (Elt F .f32) := smemLoad sxM (Rect.unit (s := S1) ![0] S1.size inb_S1_S1_0) numel1_S1 rfl
/-- Load the second scale. -/
def loadSw : P F (Elt F .f32) := smemLoad swM (Rect.unit (s := S1) ![0] S1.size inb_S1_S1_0) numel1_S1 rfl

/-! ## The body as loops -/

/-- A step for every member of a list, in order. -/
def forEach {α : Type} (l : List α) (f : α → P F PUnit) : P F PUnit := l.foldr (fun a p => f a >>= fun _ => p) (pure ⟨⟩)

theorem forEach_nil {α : Type} (f : α → P F PUnit) : forEach [] f = pure ⟨⟩ := rfl
theorem forEach_cons {α : Type} (a : α) (l : List α) (f : α → P F PUnit) :
    forEach (a :: l) f = f a >>= fun _ => forEach l f := rfl

/-- The members of `Fin 32`, in order. -/
def all32 : List (Fin 32) := List.finRange 32

theorem all32_eq : all32 = [0, 1, 2, 3, 4, 5, 6, 7, 8, 9, 10, 11, 12, 13, 14, 15, 16, 17, 18, 19, 20, 21, 22, 23, 24, 25,
    26, 27, 28, 29, 30, 31] := by decide

/-- Slot `i` of chunk `k`. -/
abbrev pk (k : Fin 8) (i : Fin 4) : Fin 32 := ⟨4 * k.val + i.val, by omega⟩

/-- Add chunk `k`'s product to the output block. -/
def compute (k : Fin 8) : P F PUnit := do
  let a ← loadSlot (pk k 0)
  let b ← loadSlot (pk k 1)
  let c ← loadSlot (pk k 2)
  let e ← loadSlot (pk k 3)
  let w ← loadW (slotOf k)
  let o ← loadO
  let _ ← loadO
  storeO (k0_pay5 a b c e w o)

/-- Chunk `k`: wait for its four slots and its rows of the second factor, add its product. -/
def chunk (v : BitVec 32) (k : Fin 8) : P F PUnit := do
  recvStep v (pk k 0)
  recvStep v (pk k 1)
  recvStep v (pk k 2)
  recvStep v (pk k 3)
  wWait k 0
  wWait k 1
  compute k

/-- Start both halves of chunk `k`. -/
def wStart2 (k : Fin 8) : P F PUnit := do wStart k 0; wStart k 1

/-- Chunk `k`, and the start of the chunk after the next, into the buffer `k` has been read from. -/
def chunkThen (v : BitVec 32) (k : Fin 6) : P F PUnit := do
  chunk v ⟨k.val, by omega⟩
  wStart2 ⟨k.val + 2, by omega⟩

/-- The scaling and the maximum with zero. -/
def epilogue : P F PUnit := do
  let a ← loadSx
  let b ← loadSw
  let o ← loadO
  let _ ← loadO
  storeO (k0_pay21 (k0_pay19 a b o) (k0_pay20 (F := F)))

/-- The body on device `d`. -/
def prog (d : Dev nD) : P F PUnit := do
  forEach all32 sigStep
  barWait
  let x ← loadX
  let _ ← loadQ
  storeQ (k0_pay2 (k0_pay1 x))
  forEach all32 (sendStep d)
  let r ← loadOwn d
  let _ ← loadOwnSlot d
  storeOwn d (k0_pay3 r)
  wStart2 0
  wStart2 1
  let _ ← loadO
  storeO (k0_pay4 (F := F))
  forEach [0, 1, 2, 3, 4, 5] (chunkThen (meW d))
  chunk (meW d) 6
  chunk (meW d) 7
  epilogue
  forEach all32 (sendWait d)

end Cert.KernelIdeal.AG

end
-- ==== Proof.KernelIdeal.Tiles.lean ====
/-
The pieces the kernel's copies read and write, as sets of elements of their buffers: each piece is the
elements a key sends to its name, so the pieces of one buffer are disjoint and cover it, and a whole
buffer held is its pieces held. Also the coordinates of a piece's elements in its buffer.
-/
module

public import proofs.«01_k».proof.Proof.KernelIdeal.Steps
public import Idealize.ShloMosaic.Lib.ValueLayout
public import Idealize.ShloMosaic.Lib.Pipeline.Launch

@[expose] public section

set_option synthInstance.maxSize 4096

noncomputable section

namespace Cert.KernelIdeal.AG

open Idealize.ShloMosaic
open Idealize.SL Idealize.SL.RA Idealize.SL.BI
open scoped Idealize.SL.BI
open Idealize.SL.BI.BIBase Idealize.SL.BI.Laws Idealize.SL.ProofMode Idealize.SL.Sem
open Cert.KernelIdeal.Gen

/-! ## Splitting a held set of elements along a key -/

section Split

variable {Val : EltTy → Type} {Ix : Type} [DecidableEq Ix] {Name : Type} [DecidableEq Name]
variable {U : Type} [URA U] {Lvl : Type}
local notation "𝕄" => MT nD τ sig Ix Val Name U Lvl

/-- Elements held, split along a family of sets that a key separates. -/
theorem split_by_key {T : Type} [Fintype T] {ℓ : Loc nD τ sig} {q : PosShare TreeShare} (f : Buf Val ℓ)
    (S : Finset (Idx ℓ)) (K : T → Finset (Idx ℓ)) (key : Idx ℓ → T) (h : ∀ t i, i ∈ K t ↔ i ∈ S ∧ key i = t) :
    (ℓ ↦[S]{q} f : sProp 𝕄) = bigSep Finset.univ fun t => ℓ ↦[K t]{q} f := by
  classical
  rw [← pointsTo_biUnion Finset.univ K]
  · congr 1
    ext i
    simp only [Finset.mem_biUnion, Finset.mem_univ, true_and, h]
    exact ⟨fun hi => ⟨key i, hi, rfl⟩, fun ⟨_, hi, _⟩ => hi⟩
  · intro t _ t' _ hne
    refine Finset.disjoint_left.mpr fun i hi hi' => hne ?_
    rw [← ((h t i).mp hi).2, ← ((h t' i).mp hi').2]

end Split

/-! ## Membership -/

/-- An element lies in a box of rank two when each coordinate lies in the box's range. -/
theorem mem_box2 {d0 d1 o0 o1 s0 s1 : Nat} (inb) (i : (⟨2, ![d0, d1]⟩ : Shape).Idx) :
    i ∈ (Rect.unit (s := ⟨2, ![d0, d1]⟩) ![o0, o1] ![s0, s1] inb).set ↔
      (o0 ≤ (i 0).val ∧ (i 0).val < o0 + s0) ∧ (o1 ≤ (i 1).val ∧ (i 1).val < o1 + s1) :=
  Rect.mem_set_unit.trans Fin.forall_fin_two

/-- An element lies in a box of rank three when each coordinate lies in the box's range. -/
theorem mem_box3 {d0 d1 d2 o0 o1 o2 s0 s1 s2 : Nat} (inb) (i : (⟨3, ![d0, d1, d2]⟩ : Shape).Idx) :
    i ∈ (Rect.unit (s := ⟨3, ![d0, d1, d2]⟩) ![o0, o1, o2] ![s0, s1, s2] inb).set ↔
      (o0 ≤ (i 0).val ∧ (i 0).val < o0 + s0) ∧ (o1 ≤ (i 1).val ∧ (i 1).val < o1 + s1) ∧
        (o2 ≤ (i 2).val ∧ (i 2).val < o2 + s2) := by
  refine Rect.mem_set_unit.trans ⟨fun h => ⟨h 0, h 1, h 2⟩, fun h a => ?_⟩
  fin_cases a
  · exact h.1
  · exact h.2.1
  · exact h.2.2

theorem set_qPiece (j : Fin 32) :
    (qPiece j).view.set = (Rect.unit (s := S4096x128) ![128 * j.val, 0] S128x128.size (inbQ j)).set :=
  View.set_slice_whole cc0_scratch0 _
theorem set_slot (j : Fin 32) :
    (slot j).view.set = (Rect.unit (s := S32x128x128) ![j.val, 0, 0] S1x128x128.size (inbR j)).set :=
  (View.set_reshape _ _).trans (View.set_slice_whole cc0_scratch1 _)
theorem set_wPiece (k : Fin 8) (h : Fin 2) :
    (wPiece k h).view.set
      = (Rect.unit (s := S4096x8192) ![512 * k.val, 4096 * h.val] S512x4096.size (inbW k h)).set :=
  View.set_slice_whole main_arg1 _
theorem set_bPiece (s h : Fin 2) :
    (bPiece s h).view.set
      = (Rect.unit (s := S2x512x8192) ![s.val, 0, 4096 * h.val] S1x512x4096.size (inbB s h)).set :=
  (View.set_reshape _ _).trans (View.set_slice_whole cc0_scratch2 _)

/-- An element of the narrowed block lies in device `j`'s rows when its row does. -/
theorem mem_qPiece (j : Fin 32) (i : S4096x128.Idx) :
    i ∈ (qPiece j).view.set ↔ i ∈ (Finset.univ : Finset S4096x128.Idx) ∧ (⟨(i 0).val / 128, by have := (i 0).isLt; show _ < 32; change (i 0).val < 4096 at this; omega⟩ : Fin 32) = j := by
  rw [set_qPiece, Fin.ext_iff]
  refine (mem_box2 _ _).trans ?_
  have h1 : (i 1).val < 128 := (i 1).isLt
  simp only [Finset.mem_univ, true_and]
  constructor
  · intro h; omega
  · intro h; omega

/-- An element of the landing buffer lies in device `j`'s slot when its first coordinate is `j`. -/
theorem mem_slot (j : Fin 32) (i : S32x128x128.Idx) :
    i ∈ (slot j).view.set ↔ i ∈ (Finset.univ : Finset S32x128x128.Idx) ∧ (⟨(i 0).val, (i 0).isLt⟩ : Fin 32) = j := by
  rw [set_slot, Fin.ext_iff]
  refine (mem_box3 _ _).trans ?_
  have h1 : (i 1).val < 128 := (i 1).isLt
  have h2 : (i 2).val < 128 := (i 2).isLt
  simp only [Finset.mem_univ, true_and]
  constructor
  · intro h; omega
  · intro h; omega

/-- The half of the columns an element lies in. -/
theorem half_lt {n : Nat} (h : n < 8192) : n / 4096 < 2 := by omega

/-- An element of the second factor lies in half `h` of chunk `k` when its row is in the chunk and its column in
    the half. -/
theorem mem_wPiece (kh : Fin 8 × Fin 2) (i : S4096x8192.Idx) :
    i ∈ (wPiece kh.1 kh.2).view.set ↔ i ∈ (Finset.univ : Finset S4096x8192.Idx) ∧
      ((⟨(i 0).val / 512, by have := (i 0).isLt; change (i 0).val < 4096 at this; omega⟩ : Fin 8),
        (⟨(i 1).val / 4096, half_lt (i 1).isLt⟩ : Fin 2)) = kh := by
  obtain ⟨k, h⟩ := kh
  rw [set_wPiece, Prod.ext_iff, Fin.ext_iff, Fin.ext_iff]
  refine (mem_box2 _ _).trans ?_
  simp only [Finset.mem_univ, true_and]
  constructor
  · intro h; omega
  · intro h; omega

/-- An element of the two buffers lies in half `h` of buffer `s` when its first coordinate is `s` and its column is
    in the half. -/
theorem mem_bPiece (sh : Fin 2 × Fin 2) (i : S2x512x8192.Idx) :
    i ∈ (bPiece sh.1 sh.2).view.set ↔ i ∈ (Finset.univ : Finset S2x512x8192.Idx) ∧
      ((⟨(i 0).val, (i 0).isLt⟩ : Fin 2), (⟨(i 2).val / 4096, half_lt (i 2).isLt⟩ : Fin 2)) = sh := by
  obtain ⟨s, h⟩ := sh
  rw [set_bPiece, Prod.ext_iff, Fin.ext_iff, Fin.ext_iff]
  refine (mem_box3 _ _).trans ?_
  have h1 : (i 1).val < 512 := (i 1).isLt
  simp only [Finset.mem_univ, true_and]
  constructor
  · intro h; omega
  · intro h; omega

/-- Buffer `s`, whole: what the load of a chunk reads. -/
abbrev bSlot (s : Fin 2) : Rect S2x512x8192 := Rect.unit (s := S2x512x8192) ![s.val, 0, 0] S1x512x8192.size (inbL s)

/-- Half `h` of buffer `s`, among the elements of buffer `s`. -/
theorem mem_bSlot (s h : Fin 2) (i : S2x512x8192.Idx) :
    i ∈ (bPiece s h).view.set ↔ i ∈ (bSlot s).set ∧ (⟨(i 2).val / 4096, half_lt (i 2).isLt⟩ : Fin 2) = h := by
  rw [set_bPiece, Fin.ext_iff]
  refine (mem_box3 _ _).trans (Iff.trans ?_ (and_congr_left' (mem_box3 _ _).symm))
  have h1 : (i 1).val < 512 := (i 1).isLt
  have h2 : (i 2).val < 8192 := (i 2).isLt
  simp only [Finset.mem_univ, true_and]
  constructor
  · intro h; omega
  · intro h; omega

/-! ## Coordinates -/

/-- Element `(a, b)` of device `j`'s rows is element `(128 j + a, b)` of the narrowed block. -/
theorem emb_qPiece (j : Fin 32) (a b : Fin 128) :
    (qPiece j).view.emb (ValueIdx.ix2 a b) = (ValueIdx.ix2 (⟨128 * j.val + a.val, by omega⟩ : Fin 4096) b : S4096x128.Idx) := by
  funext i
  refine Fin.ext ?_
  show (Rect.emb _ _ i).val = _
  fin_cases i <;> simp [Rect.emb_apply]

/-- Element `(a, b)` of slot `j` is element `(j, a, b)` of the landing buffer. -/
theorem emb_slot (j : Fin 32) (a b : Fin 128) :
    (slot j).view.emb (ValueIdx.ix2 a b) = (ValueIdx.ix3 j a b : S32x128x128.Idx) := by
  show (Rect.unit (s := S32x128x128) ![j.val, 0, 0] S1x128x128.size (inbR j)).emb (Shape.reshapeEquiv _ (ValueIdx.ix2 a b)) = _
  rw [ValueIdx.reshapeEquiv_ix2_1ab]
  funext i
  refine Fin.ext ?_
  fin_cases i <;> simp [Rect.emb_apply]

end Cert.KernelIdeal.AG

end
-- ==== Proof.KernelIdeal.Protocol.lean ====
/-
The protocol of the kernel's semaphores. A device's barrier cell expects one unit of each of the 32 devices;
with its unit device `j` hands over its landing slot for the cell's device. The receive cell of device `j`'s
copy expects the copy's credit and hands over the slot filled; the send cell of a copy hands its source rows
back; the cell of a half of a buffer of the second factor runs four rounds, one per chunk that lands there.
The module fixes what the buffers hold, the cells, the schedule, what each device owes at launch and the levels.
-/
module

public import proofs.«01_k».proof.Proof.KernelIdeal.Tiles
public import proofs.«01_k».proof.Proof.Gen.KernelIdeal.Launch
public import Idealize.ShloMosaic.Lib.Pipeline.Kit
public import Idealize.ShloMosaic.Lib.Tactic

@[expose] public section

set_option synthInstance.maxSize 4096

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-! ## The resource algebra -/

/-- The names of a cell's duties: the devices. -/
abbrev D : Type := Fin 32
abbrev UB : Type := URounds (GSem nD τ sig) D
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The cells -/

/-- The kernel's own semaphores: the send, the receive and the second factor's. -/
abbrev OI : Type := Fin 32 ⊕ Fin 32 ⊕ (Fin 2 × Fin 2)
/-- All of the protocol's: the barrier and the own ones. -/
abbrev CI : Type := Unit ⊕ OI

/-- The own semaphores by name. -/
abbrev osem : OI → SemLoc sig
  | .inl j => .dma (sendS j)
  | .inr (.inl j) => .dma (recvS j)
  | .inr (.inr p) => .dma (wS p.1 p.2)
/-- The protocol's semaphores by name. -/
abbrev csem : CI → SemLoc sig
  | .inl _ => .reg barS
  | .inr o => osem o

abbrev cBar : CI := .inl ()
abbrev cSend (j : Fin 32) : CI := .inr (.inl j)
abbrev cRecv (j : Fin 32) : CI := .inr (.inr (.inl j))
abbrev cW (s h : Fin 2) : CI := .inr (.inr (.inr (s, h)))

/-- The cell of a device by name. -/
abbrev kcell (ck : Dev nD × CI) : GSem nD τ sig := ((ck.1 : Thread nD τ), csem ck.2)
abbrev barCell (c : Dev nD) : GSem nD τ sig := ((c : Thread nD τ), .reg barS)
abbrev sendCell (c : Dev nD) (j : Fin 32) : GSem nD τ sig := ((c : Thread nD τ), .dma (sendS j))
abbrev recvCell (c : Dev nD) (j : Fin 32) : GSem nD τ sig := ((c : Thread nD τ), .dma (recvS j))
abbrev wCell (c : Dev nD) (s h : Fin 2) : GSem nD τ sig := ((c : Thread nD τ), .dma (wS s h))

theorem ownSemFacts : Pipeline.OwnSemFacts cfg0.spec osem := by decide

theorem sendS_val (j : Fin 32) : (sendS j).val = 4 + j.val := by revert j; decide
theorem recvS_val (j : Fin 32) : (recvS j).val = 36 + j.val := by revert j; decide
theorem wS_val (s h : Fin 2) : (wS s h).val = 68 + 2 * s.val + h.val := by revert s h; decide

theorem csem_injective : Function.Injective csem := by
  rintro (a | a) (b | b) h
  · rfl
  · rcases b with b | b | b <;> cases h
  · rcases a with a | a | a <;> cases h
  · exact congrArg _ (ownSemFacts.inj h)

theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The name of a semaphore, if the protocol has one for it. -/
def nameOf (s : SemLoc sig) : Option CI := Function.partialInv csem s
theorem nameOf_csem (k : CI) : nameOf (csem k) = some k := Function.partialInv_left csem_injective k

/-- The credit of a copy of 128 rows of the narrowed block. -/
@[irreducible] def N : ℕ := (slot 0).view.dmaCredit
/-- The credit of a copy of half a chunk of the second factor. -/
@[irreducible] def NW : ℕ := (bPiece 0 0).view.dmaCredit
theorem N_pos : 0 < N := by unfold N; exact View.dmaCredit_pos _ (by decide)
theorem NW_pos : 0 < NW := by unfold NW; exact View.dmaCredit_pos _ (by decide)

/-! ## Contents -/

/-- The device's block of the first factor, staged. -/
def xstg (c : Dev nD) : (cc0_stg0_0 : Ref sig .tc).ty.Contents (Elt F) :=
  (win0_0.blk (0 : Fin 1)).view.read (Elt F) ((s₀ m ρ).mem ((c : Thread nD τ).loc main_arg0))
/-- The first scale, staged. -/
def sxstg (c : Dev nD) : (cc0_stg1_0 : Ref sig .tc).ty.Contents (Elt F) :=
  (win0_1.blk (0 : Fin 1)).view.read (Elt F) ((s₀ m ρ).mem ((c : Thread nD τ).loc main_arg2))
/-- The second scale, staged. -/
def swstg (c : Dev nD) : (cc0_stg2_0 : Ref sig .tc).ty.Contents (Elt F) :=
  (win0_2.blk (0 : Fin 1)).view.read (Elt F) ((s₀ m ρ).mem ((c : Thread nD τ).loc main_arg3))
/-- The second factor. -/
def wAt (c : Dev nD) : (main_arg1 : Ref sig .tc).ty.Contents (Elt F) := (s₀ m ρ).mem ((c : Thread nD τ).loc main_arg1)

/-- The narrowed block of device `c`. -/
def xqAt (c : Dev nD) : (cc0_scratch0 : Ref sig .tc).ty.Contents (Elt F) := k0_pay2 (k0_pay1 (xstg m ρ c))

/-- What the landing buffer of device `c` comes to hold: in slot `j`, rows `128 c ..` of device `j`'s block. -/
def rowsAt (c : Dev nD) : (cc0_scratch1 : Ref sig .tc).ty.Contents (Elt F) := fun i =>
  xqAt m ρ (⟨(i 0).val, (i 0).isLt⟩ : Fin 32)
    (ValueIdx.ix2 (⟨128 * c.val + (i 1).val, by
      have h1 : (i 1).val < 128 := (i 1).isLt
      have h2 : c.val < 32 := c.isLt
      omega⟩ : Fin 4096) (⟨(i 2).val, (i 2).isLt⟩ : Fin 128))

/-- What a buffer of the second factor holds while it holds chunk `k`: rows `512 k ..`. -/
def gAt (c : Dev nD) (k : Fin 8) : (cc0_scratch2 : Ref sig .tc).ty.Contents (Elt F) := fun i =>
  wAt m ρ c (ValueIdx.ix2 (⟨512 * k.val + (i 1).val, by
      have h1 : (i 1).val < 512 := (i 1).isLt
      omega⟩ : Fin 4096) (⟨(i 2).val, (i 2).isLt⟩ : Fin 8192))

/-! ## Pieces held -/

/-- Rows `128 j ..` of device `c`'s narrowed block, held at contents `f`. -/
def qPts (c : Dev nD) (j : Fin 32) (f : (cc0_scratch0 : Ref sig .tc).ty.Contents (Elt F)) : sProp 𝕄 :=
  (qPiece j).view.loc (c : Thread nD τ) ↦[(qPiece j).view.set]{fullShare} f
/-- Slot `j` of device `c`'s landing buffer, held at contents `f`. -/
def slotPts (c : Dev nD) (j : Fin 32) (f : (cc0_scratch1 : Ref sig .tc).ty.Contents (Elt F)) : sProp 𝕄 :=
  (slot j).view.loc (c : Thread nD τ) ↦[(slot j).view.set]{fullShare} f
/-- Half `h` of chunk `k` of device `c`'s second factor, held. -/
def wPts (c : Dev nD) (k : Fin 8) (h : Fin 2) : sProp 𝕄 :=
  (wPiece k h).view.loc (c : Thread nD τ) ↦[(wPiece k h).view.set]{fullShare} wAt m ρ c
/-- Half `h` of buffer `s` of device `c`, held at contents `f`. -/
def bPts (c : Dev nD) (s h : Fin 2) (f : (cc0_scratch2 : Ref sig .tc).ty.Contents (Elt F)) : sProp 𝕄 :=
  (bPiece s h).view.loc (c : Thread nD τ) ↦[(bPiece s h).view.set]{fullShare} f

omit [FloatOps F] in
instance qPts_storable (c : Dev nD) (j f) : BI.Storable (upEmb : UEmb _ 𝕄) (qPts (F := F) c j f) := by
  unfold qPts; infer_instance
omit [FloatOps F] in
instance slotPts_storable (c : Dev nD) (j f) : BI.Storable (upEmb : UEmb _ 𝕄) (slotPts (F := F) c j f) := by
  unfold slotPts; infer_instance
omit [FloatOps F] in
instance wPts_storable (c : Dev nD) (k h) : BI.Storable (upEmb : UEmb _ 𝕄) (wPts (F := F) m ρ c k h) := by
  unfold wPts; infer_instance
omit [FloatOps F] in
instance bPts_storable (c : Dev nD) (s h f) : BI.Storable (upEmb : UEmb _ 𝕄) (bPts (F := F) c s h f) := by
  unfold bPts; infer_instance

/-! ## The schedule -/

/-- The chunk that lands in buffer `s` at round `r`. -/
def chunkAt (s : Fin 2) (r : ℕ) : Fin 8 := ⟨(2 * r + s.val) % 8, Nat.mod_lt _ (by decide)⟩

/-- The duties of a device's cells, by name and round. -/
def dutiesOf (c : Dev nD) : Option CI → ℕ → Finset D
  | some (.inl _), r => if r = 0 then Finset.univ else ∅
  | some (.inr (.inl j)), r => if r = 0 ∧ j ≠ c then {0} else ∅
  | some (.inr (.inr (.inl j))), r => if r = 0 ∧ j ≠ c then {0} else ∅
  | some (.inr (.inr (.inr _))), r => if r < 4 then {0} else ∅
  | none, _ => ∅

/-- The units a duty contributes. -/
def amountOfName : Option CI → ℕ
  | some (.inl _) => 1
  | some (.inr (.inl _)) => N
  | some (.inr (.inr (.inl _))) => N
  | some (.inr (.inr (.inr _))) => NW
  | none => 1

theorem amountOfName_pos (n : Option CI) : 0 < amountOfName n := by
  rcases n with _ | (_ | (_ | (_ | _)))
  · exact Nat.one_pos
  · exact Nat.one_pos
  · exact N_pos
  · exact N_pos
  · exact NW_pos

/-- What a duty hands the cell's device. -/
def payloadOf (c : Dev nD) : Option CI → ℕ → D → sProp 𝕄
  | some (.inl _), _, j => iprop((∃ f, slotPts j c f) ∗ reached ER (recvCell j c) 0)
  | some (.inr (.inl j)), _, _ => qPts c j (xqAt m ρ c)
  | some (.inr (.inr (.inl j))), _, _ => slotPts c j (rowsAt m ρ c)
  | some (.inr (.inr (.inr p))), r, _ => iprop(bPts c p.1 p.2 (gAt m ρ c (chunkAt p.1 r)) ∗ wPts m ρ c (chunkAt p.1 r) p.2)
  | none, _, _ => iprop(emp)

/-- The schedule of the protocol's cells. -/
def Rd : Rounds.Schedule (GSem nD τ sig) D 𝕄 where
  duties g r := if g.1.2 = .tc then dutiesOf g.1.1 (nameOf g.2) r else ∅
  unitless _ := False
  amount g _ _ := amountOfName (nameOf g.2)
  payload g r d := payloadOf m ρ g.1.1 (nameOf g.2) r d
  amount_pos g _ _ _ := amountOfName_pos _

instance Rd_payload_storable (g : GSem nD τ sig) (r : ℕ) (d : D) :
    BI.Storable (upEmb : UEmb _ 𝕄) ((Rd (F := F) m ρ).payload g r d) := by
  show BI.Storable upEmb (payloadOf m ρ g.1.1 (nameOf g.2) r d)
  generalize nameOf g.2 = n
  rcases n with _ | (_ | (_ | (_ | p)))
  · show BI.Storable upEmb (iprop(emp) : sProp 𝕄); infer_instance
  · show BI.Storable upEmb (iprop((∃ f, slotPts (F := F) d g.1.1 f) ∗ reached ER (recvCell d g.1.1) 0) : sProp 𝕄); infer_instance
  · exact qPts_storable _ _ _
  · exact slotPts_storable _ _ _
  · show BI.Storable upEmb (iprop(bPts g.1.1 p.1 p.2 (gAt m ρ g.1.1 (chunkAt p.1 r)) ∗ wPts m ρ g.1.1 (chunkAt p.1 r) p.2) : sProp 𝕄)
    infer_instance

section Sched

variable (c : Dev nD)

theorem duties_at (k : CI) (r : ℕ) : (Rd (F := F) m ρ).duties (kcell (c, k)) r = dutiesOf c (some k) r := by
  dsimp only [Rd]; rw [nameOf_csem]; exact if_pos rfl
theorem amount_at (k : CI) (r : ℕ) (d : D) : (Rd (F := F) m ρ).amount (kcell (c, k)) r d = amountOfName (some k) := by
  dsimp only [Rd]; rw [nameOf_csem]
theorem payload_at (k : CI) (r : ℕ) (d : D) :
    (Rd (F := F) m ρ).payload (kcell (c, k)) r d = payloadOf m ρ c (some k) r d := by
  dsimp only [Rd]; rw [nameOf_csem]

theorem duties_bar : (Rd (F := F) m ρ).duties (barCell c) 0 = Finset.univ := duties_at m ρ c cBar 0
theorem duties_send {j : Fin 32} (h : j ≠ c) : (Rd (F := F) m ρ).duties (sendCell c j) 0 = {0} :=
  (duties_at m ρ c (cSend j) 0).trans (if_pos ⟨rfl, h⟩)
theorem duties_recv {j : Fin 32} (h : j ≠ c) : (Rd (F := F) m ρ).duties (recvCell c j) 0 = {0} :=
  (duties_at m ρ c (cRecv j) 0).trans (if_pos ⟨rfl, h⟩)
theorem duties_w (s h : Fin 2) {r : ℕ} (hr : r < 4) : (Rd (F := F) m ρ).duties (wCell c s h) r = {0} :=
  (duties_at m ρ c (cW s h) r).trans (if_pos hr)

/-- The round a cell of device `c` is left at. -/
def lastOf : CI → ℕ
  | .inl _ => 1
  | .inr (.inl j) => if j = c then 0 else 1
  | .inr (.inr (.inl j)) => if j = c then 0 else 1
  | .inr (.inr (.inr _)) => 4

/-- No duty falls on the round a cell is left at, or on a later one. -/
theorem duties_later (k : CI) : ∀ r, lastOf c k ≤ r → (Rd (F := F) m ρ).duties (kcell (c, k)) r = ∅ := by
  intro r hr
  rw [duties_at]
  rcases k with _ | (j | (j | _))
  · exact if_neg (by have : 1 ≤ r := hr; omega)
  · refine if_neg fun h => ?_
    change (if j = c then 0 else 1) ≤ r at hr
    rw [if_neg h.2] at hr; omega
  · refine if_neg fun h => ?_
    change (if j = c then 0 else 1) ≤ r at hr
    rw [if_neg h.2] at hr; omega
  · exact if_neg (by have : 4 ≤ r := hr; omega)

theorem expect_bar : (Rd (F := F) m ρ).expect (barCell c) 0 = 32 := by
  unfold Schedule.expect Schedule.amountOf
  rw [duties_bar, Finset.sum_congr rfl fun d _ => amount_at m ρ c cBar 0 d, Finset.sum_const, Finset.card_univ]
  rfl
theorem expect_send {j : Fin 32} (h : j ≠ c) : (Rd (F := F) m ρ).expect (sendCell c j) 0 = N := by
  unfold Schedule.expect Schedule.amountOf
  rw [duties_send m ρ c h, Finset.sum_singleton]; exact amount_at m ρ c (cSend j) 0 0
theorem expect_recv {j : Fin 32} (h : j ≠ c) : (Rd (F := F) m ρ).expect (recvCell c j) 0 = N := by
  unfold Schedule.expect Schedule.amountOf
  rw [duties_recv m ρ c h, Finset.sum_singleton]; exact amount_at m ρ c (cRecv j) 0 0
theorem expect_w (s h : Fin 2) {r : ℕ} (hr : r < 4) : (Rd (F := F) m ρ).expect (wCell c s h) r = NW := by
  unfold Schedule.expect Schedule.amountOf
  rw [duties_w m ρ c s h hr, Finset.sum_singleton]; exact amount_at m ρ c (cW s h) r 0

/-- What a device has once its barrier cell's round is over: of every device, the slot for it. -/
theorem rest_bar : bigSep ((Rd (F := F) m ρ).duties (barCell c) 0 \ ∅) (fun d => (Rd (F := F) m ρ).payload (barCell c) 0 d)
    = bigSep Finset.univ fun j : Fin 32 => iprop((∃ f, slotPts (F := F) j c f) ∗ reached ER (recvCell j c) 0) := by
  rw [Finset.sdiff_empty, duties_bar]
  exact bigSep_congr fun d _ => payload_at m ρ c cBar 0 d
/-- What the end of a send hands back. -/
theorem rest_send {j : Fin 32} (h : j ≠ c) :
    bigSep ((Rd (F := F) m ρ).duties (sendCell c j) 0 \ ∅) (fun d => (Rd (F := F) m ρ).payload (sendCell c j) 0 d)
      = qPts c j (xqAt m ρ c) := by
  rw [Finset.sdiff_empty, duties_send m ρ c h, bigSep_singleton]; exact payload_at m ρ c (cSend j) 0 0
/-- What the arrival of a copy hands over. -/
theorem rest_recv {j : Fin 32} (h : j ≠ c) :
    bigSep ((Rd (F := F) m ρ).duties (recvCell c j) 0 \ ∅) (fun d => (Rd (F := F) m ρ).payload (recvCell c j) 0 d)
      = slotPts c j (rowsAt m ρ c) := by
  rw [Finset.sdiff_empty, duties_recv m ρ c h, bigSep_singleton]; exact payload_at m ρ c (cRecv j) 0 0
/-- What the arrival of half a chunk of the second factor hands over. -/
theorem rest_w (s h : Fin 2) {r : ℕ} (hr : r < 4) :
    bigSep ((Rd (F := F) m ρ).duties (wCell c s h) r \ ∅) (fun d => (Rd (F := F) m ρ).payload (wCell c s h) r d)
      = iprop(bPts c s h (gAt m ρ c (chunkAt s r)) ∗ wPts m ρ c (chunkAt s r) h) := by
  rw [Finset.sdiff_empty, duties_w m ρ c s h hr, bigSep_singleton]; exact payload_at m ρ c (cW s h) r 0

end Sched

/-! ## What each device owes, and the levels -/

/-- The receive credits device `c` owes the devices from `n` on. -/
def recvRem (c : Dev nD) (n : ℕ) : CellTallies nD τ sig Unit :=
  ∑ j : Fin 32 with n ≤ j.val ∧ j ≠ c, tallyAt (recvCell j c) () N
/-- The barrier units a device owes the devices from `n` on. -/
def barRem (n : ℕ) : CellTallies nD τ sig Unit := ∑ j : Fin 32 with n ≤ j.val, tallyAt (barCell j) () 1
/-- What device `c` owes at launch: every other device a copy's credit, every device a unit. -/
def O₀ (c : Dev nD) : CellTallies nD τ sig Unit := recvRem c 0 + barRem 0

theorem barRem_succ (j : Fin 32) : barRem j.val = barRem (j.val + 1) + tallyAt (barCell j) () 1 := by
  unfold barRem
  rw [show (Finset.univ.filter fun i : Fin 32 => j.val ≤ i.val) = insert j (Finset.univ.filter fun i : Fin 32 => j.val + 1 ≤ i.val) from by
    ext i; simp only [Finset.mem_filter, Finset.mem_univ, true_and, Finset.mem_insert, Fin.ext_iff]; omega]
  rw [Finset.sum_insert (by simp), add_comm]
theorem barRem_end : barRem 32 = 0 := by
  unfold barRem
  rw [Finset.filter_eq_empty_iff.mpr (fun i _ => by have := i.isLt; omega), Finset.sum_empty]
theorem recvRem_succ (c : Dev nD) {j : Fin 32} (h : j ≠ c) :
    recvRem c j.val = recvRem c (j.val + 1) + tallyAt (recvCell j c) () N := by
  unfold recvRem
  rw [show (Finset.univ.filter fun i : Fin 32 => j.val ≤ i.val ∧ i ≠ c)
      = insert j (Finset.univ.filter fun i : Fin 32 => j.val + 1 ≤ i.val ∧ i ≠ c) from by
    ext i
    simp only [Finset.mem_filter, Finset.mem_univ, true_and, Finset.mem_insert]
    constructor
    · rintro ⟨h1, h2⟩
      by_cases e : i = j
      · exact .inl e
      · refine .inr ⟨?_, h2⟩
        have : i.val ≠ j.val := fun e' => e (Fin.ext e')
        omega
    · rintro (rfl | ⟨h1, h2⟩)
      · exact ⟨le_refl _, h⟩
      · exact ⟨by omega, h2⟩]
  rw [Finset.sum_insert (by simp), add_comm]
theorem recvRem_self (c : Dev nD) : recvRem c c.val = recvRem c (c.val + 1) := by
  unfold recvRem
  congr 1
  ext i
  simp only [Finset.mem_filter, Finset.mem_univ, true_and]
  constructor
  · rintro ⟨h1, h2⟩
    refine ⟨?_, h2⟩
    have : i.val ≠ c.val := fun e' => h2 (Fin.ext e')
    omega
  · rintro ⟨h1, h2⟩; exact ⟨by omega, h2⟩
theorem recvRem_end (c : Dev nD) : recvRem c 32 = 0 := by
  unfold recvRem
  rw [Finset.filter_eq_empty_iff.mpr (fun i _ => by have : i.val < 32 := i.isLt; omega), Finset.sum_empty]

/-- A sum of tallies owes a cell something only if it is the cell of one of the summands. -/
theorem sum_tally_pos {T : Type} (S : Finset T) (g : T → GSem nD τ sig) (n : ℕ) {g' : GSem nD τ sig} {u : Unit}
    (h : 0 < (∑ t ∈ S, (tallyAt (g t) () n : CellTallies nD τ sig Unit)) g' u) : ∃ t ∈ S, g' = g t := by
  by_contra hn
  push Not at hn
  rw [Finset.sum_apply, Finsupp.finset_sum_apply, Finset.sum_eq_zero] at h
  · exact Nat.lt_irrefl 0 h
  · intro t ht
    rw [tallyAt_apply, if_neg (fun e => hn t ht e.1)]

/-- The indices a cell's level is given at. -/
def L (g : GSem nD τ sig) : Finset Unit := if g.1.2 = .tc then {()} else ∅
/-- The levels: the barrier cells at one, the receive cells at two, every other cell at zero. -/
def lv (g : GSem nD τ sig) (_ : Unit) : ℕ :=
  match g.2 with
  | .reg _ => 1
  | .dma q => if 36 ≤ q.val ∧ q.val < 68 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (j : Fin 32) (u : Unit) : lv (recvCell c j) u = 2 := by
  show (if 36 ≤ (recvS j).val ∧ (recvS j).val < 68 then 2 else 0) = 2
  rw [recvS_val, if_pos ⟨by omega, by omega⟩]

/-- The cells a device owes: receive cells and barrier cells. -/
theorem O₀_pos {c : Dev nD} {g : GSem nD τ sig} {u : Unit} (h : 0 < O₀ c g u) :
    (∃ j, g = recvCell j c) ∨ ∃ j, g = barCell j := by
  unfold O₀ at h
  rw [Pi.add_apply, Finsupp.add_apply] at h
  rcases Nat.eq_zero_or_pos (recvRem c 0 g u) with e | e
  · rw [e, zero_add] at h
    obtain ⟨j, -, hj⟩ := sum_tally_pos _ (fun j : Fin 32 => barCell j) 1 h
    exact .inr ⟨j, hj⟩
  · obtain ⟨j, -, hj⟩ := sum_tally_pos _ (fun j : Fin 32 => recvCell j c) N e
    exact .inl ⟨j, hj⟩

end Cert.KernelIdeal.AG

end
-- ==== Proof.KernelIdeal.Content.lean ====
/-
What the copies and the store of the device's own rows leave in the buffers they write: the landing buffer's
slots and the halves of the second factor's buffers hold what the protocol's payloads say.
-/
module

public import proofs.«01_k».proof.Proof.KernelIdeal.Protocol

@[expose] public section

set_option synthInstance.maxSize 4096

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- Element `(a, b)` of half `h` of chunk `k` is element `(512 k + a, 4096 h + b)` of the second factor. -/
theorem emb_wPiece (k : Fin 8) (h : Fin 2) (a : Fin 512) (b : Fin 4096) :
    (wPiece k h).view.emb (ValueIdx.ix2 a b)
      = (ValueIdx.ix2 (⟨512 * k.val + a.val, by omega⟩ : Fin 4096) (⟨4096 * h.val + b.val, by omega⟩ : Fin 8192) : S4096x8192.Idx) := by
  funext i
  refine Fin.ext ?_
  show (Rect.emb _ _ i).val = _
  fin_cases i <;> simp [Rect.emb_apply]

/-- Element `(a, b)` of half `h` of buffer `s` is element `(s, a, 4096 h + b)` of the two buffers. -/
theorem emb_bPiece (s h : Fin 2) (a : Fin 512) (b : Fin 4096) :
    (bPiece s h).view.emb (ValueIdx.ix2 a b)
      = (ValueIdx.ix3 s a (⟨4096 * h.val + b.val, by omega⟩ : Fin 8192) : S2x512x8192.Idx) := by
  show (Rect.unit (s := S2x512x8192) ![s.val, 0, 4096 * h.val] S1x512x4096.size (inbB s h)).emb (Shape.reshapeEquiv _ (ValueIdx.ix2 a b)) = _
  rw [ValueIdx.reshapeEquiv_ix2_1ab]
  funext i
  refine Fin.ext ?_
  fin_cases i <;> simp [Rect.emb_apply]

/-- Contents a view writes agree with `g` under the view when `g` reads there what is written. -/
theorem write_agrees {sp : Space} {s : Shape} {e : EltTy} (v : View sig .tc sp s e) (f g : v.ty.Contents (Elt F)) (w : s.Idx → Elt F e)
    (h : ∀ x, v.read (Elt F) g x = w x) : ∀ i ∈ v.set, v.write (Elt F) f w Finset.univ i = g i := by
  intro i hi
  obtain ⟨x, -, rfl⟩ := Finset.mem_map.mp hi
  rw [View.write_emb_of_mem _ _ (Finset.mem_univ x), ← h x, View.read_apply]
  exact (cast_cast _ _ _).trans (cast_eq _ _)

/-- What slot `c` of device `j` reads, its landing buffer full: device `j`'s rows of device `c`'s narrowed block. -/
theorem read_slot (c j : Fin 32) (a b : Fin 128) :
    (slot c).view.read (Elt F) (rowsAt m ρ j) (ValueIdx.ix2 a b)
      = xqAt m ρ c (ValueIdx.ix2 (⟨128 * j.val + a.val, by omega⟩ : Fin 4096) b) := by
  rw [View.read_apply, emb_slot]; rfl

/-- What device `j`'s piece of device `c`'s narrowed block reads. -/
theorem read_qPiece (c j : Fin 32) (a b : Fin 128) :
    (qPiece j).view.read (Elt F) (xqAt m ρ c) (ValueIdx.ix2 a b)
      = xqAt m ρ c (ValueIdx.ix2 (⟨128 * j.val + a.val, by omega⟩ : Fin 4096) b) := by
  rw [View.read_apply, emb_qPiece]; rfl

/-- The copy of device `c`'s rows for device `j` leaves in `j`'s slot `c` what the protocol says. -/
theorem land_rows (c j : Fin 32) (fd : (cc0_scratch1 : Ref sig .tc).ty.Contents (Elt F)) :
    ∀ i ∈ (slot c).view.set,
      (slot c).view.write (Elt F) fd ((qPiece j).view.read (Elt F) (xqAt m ρ c)) Finset.univ i = rowsAt m ρ j i := by
  refine write_agrees (slot c).view fd (rowsAt m ρ j) _ fun x => ?_
  obtain ⟨a, b, rfl⟩ : ∃ (a b : Fin 128), x = ValueIdx.ix2 a b := ⟨x 0, x 1, ValueIdx.eq_ix2 x⟩
  rw [read_slot, read_qPiece]

/-- The copy of half `h` of chunk `k` leaves in the buffer the chunk's half. -/
theorem land_w (c : Dev nD) (k : Fin 8) (h : Fin 2) (fd : (cc0_scratch2 : Ref sig .tc).ty.Contents (Elt F)) :
    ∀ i ∈ (bPiece (slotOf k) h).view.set,
      (bPiece (slotOf k) h).view.write (Elt F) fd ((wPiece k h).view.read (Elt F) (wAt m ρ c)) Finset.univ i = gAt m ρ c k i := by
  refine write_agrees (bPiece (slotOf k) h).view fd (gAt m ρ c k) _ fun x => ?_
  obtain ⟨a, b, rfl⟩ : ∃ (a : Fin 512) (b : Fin 4096), x = ValueIdx.ix2 a b := ⟨x 0, x 1, ValueIdx.eq_ix2 x⟩
  rw [View.read_apply, View.read_apply, emb_bPiece, emb_wPiece]; rfl

/-- The rows a device keeps, as loaded. -/
def ownRows (c : Dev nD) : FVec F S128x128 .fp8e4m3 :=
  (qM.access (Rect.unit (s := S4096x128) (k0_off65 c) S128x128.size (k0_off65_inb c))).read (Elt F) (xqAt m ρ c)

/-- The elements under the slot a device stores its own rows to. -/
theorem set_own (c : Dev nD) (o : Fin 3 → Nat) (e : o = ![c.val, 0, 0]) (hi : ∀ a, o a + S1x128x128.size a ≤ S32x128x128.size a) :
    (rM.access (Rect.unit (s := S32x128x128) o S1x128x128.size hi)).set = (slot c).view.set := by
  subst e
  rw [set_slot]
  exact View.set_slice_whole cc0_scratch1 _

theorem ownRows_at (c : Dev nD) (a b : Fin 128) :
    ownRows m ρ c (ValueIdx.ix2 a b) = xqAt m ρ c (ValueIdx.ix2 (⟨128 * c.val + a.val, by have : c.val < 32 := c.isLt; omega⟩ : Fin 4096) b) := by
  have h : ∀ (o : Fin 2 → Nat) (e : o = ![128 * c.val, 0]) (hi : ∀ a, o a + S128x128.size a ≤ S4096x128.size a),
      (qM.access (Rect.unit (s := S4096x128) o S128x128.size hi)).read (Elt F) (xqAt m ρ c) (ValueIdx.ix2 a b)
      = xqAt m ρ c (ValueIdx.ix2 (⟨128 * c.val + a.val, by have : c.val < 32 := c.isLt; omega⟩ : Fin 4096) b) := by
    rintro o rfl hi
    exact read_qPiece m ρ c c a b
  exact h _ (k0_off65_eq c) _

/-- The store of the device's own rows leaves in its own slot what the protocol says. -/
theorem land_own (c : Dev nD) (fd : (cc0_scratch1 : Ref sig .tc).ty.Contents (Elt F)) (o : Fin 3 → Nat) (e : o = ![c.val, 0, 0])
    (hi : ∀ a, o a + S1x128x128.size a ≤ S32x128x128.size a) :
    ∀ i ∈ (slot c).view.set,
      (rM.access (Rect.unit (s := S32x128x128) o S1x128x128.size hi)).write (Elt F) fd (k0_pay3 (ownRows m ρ c)) Finset.univ i
        = rowsAt m ρ c i := by
  rw [← set_own c o e hi]
  subst e
  refine write_agrees (rM.access (Rect.unit (s := S32x128x128) ![c.val, 0, 0] S1x128x128.size hi)) fd (rowsAt m ρ c) _ fun x => ?_
  obtain ⟨u, a, b, rfl⟩ : ∃ (u : Fin 1) (a b : Fin 128), x = ValueIdx.ix3 u a b := ⟨x 0, x 1, x 2, ValueIdx.eq_ix3 x⟩
  have h1 : k0_pay3 (ownRows m ρ c) (ValueIdx.ix3 u a b) = ownRows m ρ c (ValueIdx.ix2 a b) :=
    ValueIdx.shapeCast_ab_1ab_apply (ownRows m ρ c) shapeCasts_S128x128_S1x128x128 u a b
  have h2 : (rM.access (Rect.unit (s := S32x128x128) ![c.val, 0, 0] S1x128x128.size hi)).emb (ValueIdx.ix3 u a b)
      = (ValueIdx.ix3 c a b : S32x128x128.Idx) := by
    funext i
    refine Fin.ext ?_
    show (Rect.emb _ _ i).val = _
    fin_cases i <;> simp [Rect.emb_apply]
  rw [h1, ownRows_at, View.read_apply, h2]; rfl

/-- The chunk that is in its buffer at its round is the chunk. -/
theorem chunkAt_slotOf (k : Fin 8) : chunkAt (slotOf k) (k.val / 2) = k := by revert k; decide

end Cert.KernelIdeal.AG

end
-- ==== Proof.KernelIdeal.Rules.lean ====
/-
What each step of the body does to what a device holds: one rule per step that touches a semaphore.
-/
module

public import proofs.«01_k».proof.Proof.KernelIdeal.Content

@[expose] public section

set_option synthInstance.maxSize 4096

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program of device `c`. -/
abbrev run {α : Type} (c : Dev nD) (p : P F α) (Q : α → sProp 𝕄) : sProp 𝕄 :=
  wp frame (wpE (defs₀ (F := F)) 𝒱₀ (c : Thread nD τ) none) Set.univ p Q

theorem run_bind {α β : Type} (c : Dev nD) (p : P F α) (k : α → P F β) (Q : β → sProp 𝕄) :
    run c (p >>= k) Q = run c p (fun a => run c (k a) Q) := by
  unfold run; rw [wp_bind]

/-- A finished program's weakest precondition follows from its postcondition. -/
theorem run_pure {α : Type} (c : Dev nD) (a : α) (Q : α → sProp 𝕄) : Q a ⊢ run c (pure a : P F α) Q := by
  show _ ⊢ wp frame _ Set.univ (.ret a) Q
  rw [wp_ret]; exact BI.fupd_intro

/-- What device `c` owes, whatever it has waited for. -/
def owesS (c : Dev nD) (O : CellTallies nD τ sig Unit) : sProp 𝕄 := iprop(∃ W, owes (c : Thread nD τ) O W)

/-! ## The levels at the waits -/

/-- A semaphore of level zero may be waited for at launch, and when nothing is owed. -/
theorem mayWait_stage (c : Dev nD) (q : DmaSem sig) (hq : ¬ (36 ≤ q.val ∧ q.val < 68)) (O : CellTallies nD τ sig Unit)
    (hO : O = O₀ c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ <;> exact Finset.mem_singleton_self _)
      (fun p hp => by rw [Finset.mem_singleton.mp hp]; exact le_of_eq (if_neg hq))
      (fun g u hg => by
        rcases O₀_pos hg with ⟨j, rfl⟩ | ⟨j, rfl⟩
        · rw [lv_recv]; decide
        · rw [lv_bar]; decide)
  · rw [MayWait_zero]; iintro -; iempintro

/-- At its barrier wait a device owes receive credits only: those cells are above its barrier cell. -/
theorem mayWait_bar (c : Dev nD) : (levAts L lv : sProp 𝕄) ⊢ MayWait (c : Thread nD τ) (.reg barS) () (recvRem c 0) :=
  MayOwe.of_cut (L := L) (lev := lv) 1 (fun p hp => by rw [Finset.mem_singleton.mp hp, L_tc]; exact Finset.mem_singleton_self _)
    (fun g u hg => by
      obtain ⟨j, -, rfl⟩ := sum_tally_pos _ (fun j : Fin 32 => recvCell j c) N hg
      exact Finset.mem_singleton_self _)
    (fun p hp => by rw [Finset.mem_singleton.mp hp]; exact le_of_eq (lv_bar c _))
    (fun g u hg => by
      obtain ⟨j, -, rfl⟩ := sum_tally_pos _ (fun j : Fin 32 => recvCell j c) N hg
      rw [lv_recv]; decide)

/-! ## The records -/

/-- Every cell's invariant, at the names `K`, and that every cell's round zero is reached. -/
def records (K : Dev nD × CI → ℕ) : sProp 𝕄 :=
  iprop((bigSep Finset.univ fun ck : Dev nD × CI => cellInv ER (Rd m ρ) (K ck) (kcell ck))
    ∗ bigSep Finset.univ fun ck : Dev nD × CI => reached ER (kcell ck) 0)

instance records_persistent (K : Dev nD × CI → ℕ) : BI.Persistent (records (F := F) m ρ K) := by unfold records; infer_instance

variable (K : Dev nD × CI → ℕ)

theorem inv_at (ck : Dev nD × CI) : records (F := F) m ρ K ⊢ cellInv ER (Rd m ρ) (K ck) (kcell ck) :=
  show iprop((bigSep Finset.univ fun ck : Dev nD × CI => cellInv ER (Rd m ρ) (K ck) (kcell ck))
    ∗ bigSep Finset.univ fun ck : Dev nD × CI => reached ER (kcell ck) 0) ⊢ cellInv ER (Rd m ρ) (K ck) (kcell ck) from
  by
    iintro ⟨H, -⟩
    iapply (show (bigSep Finset.univ fun ck : Dev nD × CI => (cellInv ER (Rd m ρ) (K ck) (kcell ck) : sProp 𝕄)) ⊢ cellInv ER (Rd m ρ) (K ck) (kcell ck)
      from bigSep_elim (Finset.mem_univ ck))
    iexact H
theorem reached_at (ck : Dev nD × CI) : records (F := F) m ρ K ⊢ reached ER (kcell ck) 0 :=
  show iprop((bigSep Finset.univ fun ck : Dev nD × CI => cellInv ER (Rd m ρ) (K ck) (kcell ck))
    ∗ bigSep Finset.univ fun ck : Dev nD × CI => reached ER (kcell ck) 0) ⊢ reached ER (kcell ck) 0 from
  by
    iintro ⟨-, H⟩
    iapply (show (bigSep Finset.univ fun ck : Dev nD × CI => (reached ER (kcell ck) 0 : sProp 𝕄)) ⊢ reached ER (kcell ck) 0
      from bigSep_elim (Finset.mem_univ ck))
    iexact H

/-! ## The handshake -/

/-- The signal to device `j` hands it this device's slot for it. -/
theorem sig_step (c : Dev nD) (j : Fin 32) (Q : PUnit → sProp 𝕄) :
    iprop(records m ρ K ∗ owesS c (recvRem c 0 + barRem j.val) ∗ dutyTok ER (barCell j) 0 c ∗ (∃ f, slotPts c j f))
      ⊢ iprop((owesS c (recvRem c 0 + barRem (j.val + 1)) -∗ Q ⟨⟩) -∗ run c (sigStep (F := F) j) Q) := by
  unfold sigStep owesS
  simp only [semSignalWord, Prog.lift]
  iintro ⟨#HR, ⟨%W, HO⟩, Ht, Hs⟩ Hk
  ihave #HI := (inv_at m ρ K (j, cBar)) $$ HR
  ihave #Hb := (reached_at m ρ K (j, cBar)) $$ HR
  ihave #Hr := (reached_at m ρ K (c, cRecv j)) $$ HR
  iapply (Rounds.wp_signal 𝒱₀ ER (Rd m ρ) (c : Thread nD τ) none (dst := ((j : Dev nD) : Thread nD τ)) (κ := K (j, cBar))
      (d := c) (by rw [duties_bar]; exact Finset.mem_univ _) ((amount_at m ρ j cBar 0 c).trans (by decide)) ()
      (recvRem c 0 + barRem (j.val + 1)) (O₀ := recvRem c 0 + barRem j.val)
      (by rw [barRem_succ, add_assoc]; rfl)) $$ [HO Ht Hs]
  · isplitr; · iexact HI
    isplitl [HO]; · iexact HO
    isplitl [Ht]; · iexact Ht
    isplitl [Hs]
    · rw [payload_at m ρ j cBar 0 c]
      unfold payloadOf
      isplitl [Hs]; · iexact Hs
      iexact Hr
    iexact Hb
  iintro HO
  rw [wp_ret]; imodintro
  iapply Hk
  iexists W; iexact HO

/-- The wait for the signals brings of every device its slot for this one. -/
theorem bar_wait (c : Dev nD) (Q : PUnit → sProp 𝕄) :
    iprop(records m ρ K ∗ levAts L lv ∗ cred (tallyAt (barCell c) () 32) ∗ owesS c (recvRem c 0) ∗ atPos ER (barCell c) 0 ∅ 0)
      ⊢ iprop(((owesS c (recvRem c 0) ∗ atPos ER (barCell c) 1 ∅ 0 ∗ bigSep Finset.univ fun j : Fin 32 => iprop(∃ f, slotPts (F := F) j c f))
          -∗ Q ⟨⟩) -∗ run c (barWait (F := F)) Q) := by
  unfold barWait owesS
  simp only [semWaitWord, Prog.lift]
  iintro ⟨#HR, #Hlev, Hc, ⟨%W, HO⟩, Ha⟩ Hk
  ihave #HI := (inv_at m ρ K (c, cBar)) $$ HR
  iapply (Rounds.wp_wait_rest_token 𝒱₀ ER (Rd m ρ) (c : Thread nD τ) none (κ := K (c, cBar))
      (wpE_semWait_eq 𝒱₀ (c : Thread nD τ) none Set.univ) (Set.mem_univ _) () (O := recvRem c 0) (W := W) (R := 0) (m := 0) (T := ∅)
      (by rw [expect_bar]; decide)) $$ [Hc HO Ha]
  · isplitr; · iexact HI
    isplitl [Hc]; · iexact Hc
    isplitl [HO]; · iexact HO
    isplitr; · iapply (mayWait_bar c); iexact Hlev
    iexact Ha
  iintro ⟨HO, Ha, -, Hpay⟩
  ihave Hp := (Entails.of_eq (rest_bar m ρ c)) $$ Hpay
  ihave Hp := (Entails.of_eq (bigSep_sep' Finset.univ (fun j : Fin 32 => iprop(∃ f, slotPts (F := F) j c f))
      (fun j : Fin 32 => reached ER (recvCell j c) 0))) $$ Hp
  icases Hp with ⟨Hp, -⟩
  rw [wp_ret]; imodintro
  iapply Hk
  isplitl [HO]; · iexists _; iexact HO
  isplitl [Ha]; · iexact Ha
  iexact Hp

/-! ## The copies between devices -/

theorem on_iff (d j : Fin 32) : onW (neW (meW (d : Dev nD)) j) = 1#1 ↔ j ≠ d := by revert d j; decide

/-- The send of device `c`'s rows for another device `j`, at any spelling of the slot's and the semaphore's offsets. -/
theorem send_core (c : Dev nD) (j : Fin 32) (hne : j ≠ c) (o1 : Fin 1 → Nat) (e1 : o1 = ![c.val]) (i1 : ∀ a, o1 a + S1.size a ≤ S32.size a)
    (o2 : Fin 3 → Nat) (e2 : o2 = ![c.val, 0, 0]) (i2 : ∀ a, o2 a + S1x128x128.size a ≤ S32x128x128.size a)
    {hsc : (slotAt o2 i2 : Memref sig (Dev.tc (j : Dev nD) : Thread nD τ).2.kind .vmem S128x128 .fp8e4m3).view.ref.isScScratch = false}
    {hsrc : (qPiece j).view.WordExact} {hdst : (slotAt o2 i2).view.WordExact}
    {hsem : DmaTarget.Typed .vmem (.dma (semAt cc0_scratch4 o1 i1)) (.remote (Dev.tc (j : Dev nD) : Thread nD τ) (slotAt o2 i2) (.dma (sendS j)) hsc)}
    (k : PUnit → P F PUnit) (Q : PUnit → sProp 𝕄) :
    iprop(records m ρ K ∗ owesS c (recvRem c j.val) ∗ qPts c j (xqAt m ρ c) ∗ (∃ f, slotPts j c f)
        ∗ dutyTok ER (sendCell c j) 0 0 ∗ dutyTok ER (recvCell j c) 0 0)
      ⊢ iprop(((owesS c (recvRem c (j.val + 1)) ∗ cred (tallyAt (sendCell c j) () N)) -∗ run c (k ⟨⟩) Q)
          -∗ run c (.op (.enqueueDma (qPiece j) (.remote (Dev.tc (j : Dev nD) : Thread nD τ) (slotAt o2 i2) (.dma (sendS j)) hsc)
              (.dma (semAt cc0_scratch4 o1 i1)) hsrc hdst hsem) k) Q) := by
  subst e1; subst e2
  unfold qPts owesS
  iintro ⟨#HR, ⟨%W, HO⟩, Hq, ⟨%fn, Hs⟩, Ht1, Ht2⟩ Hk
  unfold slotPts
  ihave #HI1 := (inv_at m ρ K (c, cSend j)) $$ HR
  ihave #HI2 := (inv_at m ρ K (j, cRecv c)) $$ HR
  ihave #Hr1 := (reached_at m ρ K (c, cSend j)) $$ HR
  ihave #Hr2 := (reached_at m ρ K (j, cRecv c)) $$ HR
  iapply (Rounds.wp_send_pointsTo 𝒱₀ ER (Rd m ρ) (c : Thread nD τ) none (κ₁ := K (c, cSend j)) (κ₂ := K (j, cRecv c))
    (r₁ := 0) (r₂ := 0) (d₁ := 0) (d₂ := 0) (fd := fn) (fs := xqAt m ρ c)
    (by rw [duties_send m ρ c hne]; exact Finset.mem_singleton_self _) (by rw [duties_recv m ρ j hne.symm]; exact Finset.mem_singleton_self _)
    () () N (by unfold N; rfl) (amount_at m ρ c (cSend j) 0 0) (amount_at m ρ j (cRecv c) 0 0) (O₀ := recvRem c j.val) (recvRem c (j.val + 1))
    (recvRem_succ c hne) (W := W)
    (by rw [payload_at m ρ c (cSend j) 0 0]; exact BI.Entails.refl _)
    (by rw [payload_at m ρ j (cRecv c) 0 0]; exact Entails.of_eq (pointsTo_congr (land_rows m ρ c j fn)))) $$ [Hq Hs HO Ht1 Ht2]
  · isplitr; · iexact HI1
    isplitr; · iexact HI2
    isplitl [Hq]; · iexact Hq
    isplitl [Hs]; · iexact Hs
    isplitl [HO]; · iexact HO
    isplitl [Ht1]; · iexact Ht1
    isplitr; · iexact Hr1
    isplitl [Ht2]; · iexact Ht2
    iexact Hr2
  iintro ⟨Hc, HO⟩
  iapply Hk
  isplitl [HO]; · iexists W; iexact HO
  iexact Hc

/-- What a send leaves a device with: the copy's credit; where the device would send to itself, what it had. -/
def sent (c : Dev nD) (j : Fin 32) : sProp 𝕄 :=
  if j = c then iprop(qPts c j (xqAt m ρ c) ∗ ∃ f, slotPts j c f) else cred (tallyAt (sendCell c j) () N)

/-- The step that sends device `j` its rows. -/
theorem send_step (c : Dev nD) (j : Fin 32) (Q : PUnit → sProp 𝕄) :
    iprop(records m ρ K ∗ owesS c (recvRem c j.val) ∗ qPts c j (xqAt m ρ c) ∗ (∃ f, slotPts j c f)
        ∗ dutyTok ER (sendCell c j) 0 0 ∗ dutyTok ER (recvCell j c) 0 0)
      ⊢ iprop(((owesS c (recvRem c (j.val + 1)) ∗ sent m ρ c j) -∗ Q ⟨⟩) -∗ run c (sendStep (F := F) c j) Q) := by
  unfold sendStep sent
  by_cases h : j = c
  · rw [dif_neg (fun h' => (on_iff c j).mp h' h), if_pos h]
    subst h
    rw [recvRem_self]
    iintro ⟨-, HO, Hq, Hs, -, -⟩ Hk
    iapply (run_pure (F := F) j PUnit.unit Q)
    iapply Hk
    isplitl [HO]; · iexact HO
    isplitl [Hq]; · iexact Hq
    iexact Hs
  · rw [dif_pos ((on_iff c j).mpr h), if_neg h]
    iintro H Hk
    iapply (send_core m ρ K c j h (k0_off1 c) (k0_off1_eq c) (off1_inb c) (k0_off2 c) (k0_off2_eq c) (off2_inb c) (fun _ => pure ⟨⟩) Q) $$ H
    iintro H
    iapply (run_pure (F := F) c PUnit.unit Q)
    iapply Hk; iexact H

/-! ## The waits for the copies -/

/-- A wait for a whole round, nothing owed. -/
theorem wait_core (c : Dev nD) {w : TpuEff nD τ sig (Elt F) Λ₀ (c : Thread nD τ).2 PUnit} {sm : SemLoc sig} {k' n R : ℕ} (κ : ℕ)
    (hw : ∀ Kt : PUnit → sProp 𝕄, wpE (defs₀ (F := F)) 𝒱₀ (c : Thread nD τ) none Set.univ w Kt = waitSpec (c : Thread nD τ) Set.univ sm k' Kt)
    (hn : k' = n) (he : (Rd (F := F) m ρ).expect ((c : Thread nD τ), sm) R = n) (k : PUnit → P F PUnit) (Q : PUnit → sProp 𝕄) :
    iprop(cellInv ER (Rd m ρ) κ ((c : Thread nD τ), sm) ∗ cred (tallyAt ((c : Thread nD τ), sm) () n) ∗ owesS c 0
        ∗ atPos ER ((c : Thread nD τ), sm) R ∅ 0)
      ⊢ iprop(((owesS c 0 ∗ atPos ER ((c : Thread nD τ), sm) (R + 1) ∅ 0 ∗ reached ER ((c : Thread nD τ), sm) (R + 1)
            ∗ bigSep ((Rd m ρ).duties ((c : Thread nD τ), sm) R \ ∅) (fun d => (Rd m ρ).payload ((c : Thread nD τ), sm) R d)) -∗ run c (k ⟨⟩) Q)
          -∗ run c (.op w k) Q) := by
  subst hn
  unfold owesS
  iintro ⟨HI, Hc, ⟨%W, HO⟩, Ha⟩ Hk
  iapply (Rounds.wp_wait_rest_token 𝒱₀ ER (Rd m ρ) (c : Thread nD τ) none (κ := κ) hw (Set.mem_univ _) () (O := 0) (W := W) (R := R)
    (m := 0) (T := ∅) (by rw [he, Nat.zero_add])) $$ [HI Hc HO Ha]
  · isplitl [HI]; · iexact HI
    isplitl [Hc]; · iexact Hc
    isplitl [HO]; · iexact HO
    isplitr; · rw [MayWait_zero]; iempintro
    iexact Ha
  iintro ⟨HO, Hrest⟩
  iapply Hk
  isplitl [HO]; · iexists _; iexact HO
  iexact Hrest

/-- What a device waits for device `j`'s rows with: the copy's credit; its own slot where `j` is itself. -/
def coming (c : Dev nD) (j : Fin 32) : sProp 𝕄 :=
  if j = c then slotPts c j (rowsAt m ρ c) else cred (tallyAt (recvCell c j) () N)

/-- The wait for device `j`'s rows brings the slot filled. -/
theorem recv_step (c : Dev nD) (j : Fin 32) (Q : PUnit → sProp 𝕄) :
    iprop(records m ρ K ∗ owesS c 0 ∗ coming m ρ c j ∗ atPos ER (recvCell c j) 0 ∅ 0)
      ⊢ iprop(((owesS c 0 ∗ slotPts c j (rowsAt m ρ c) ∗ atPos ER (recvCell c j) (lastOf c (cRecv j)) ∅ 0) -∗ Q ⟨⟩)
          -∗ run c (recvStep (F := F) (meW c) j) Q) := by
  unfold recvStep recvW coming
  show _ ⊢ iprop(((_ ∗ _ ∗ atPos ER (recvCell c j) (if j = c then 0 else 1) ∅ 0) -∗ _) -∗ _)
  by_cases h : j = c
  · rw [dif_neg (fun h' => (on_iff c j).mp h' h), if_pos h, if_pos h]
    iintro ⟨-, HO, Hs, Ha⟩ Hk
    iapply (run_pure (F := F) c PUnit.unit Q)
    iapply Hk
    isplitl [HO]; · iexact HO
    isplitl [Hs]; · iexact Hs
    iexact Ha
  · rw [dif_pos ((on_iff c j).mpr h), if_neg h, if_neg h]
    iintro ⟨#HR, HO, Hc, Ha⟩ Hk
    ihave #HI := (inv_at m ρ K (c, cRecv j)) $$ HR
    iapply (wait_core m ρ c (K (c, cRecv j)) (n := N) (R := 0)
      (wpE_waitDma2_eq 𝒱₀ (c : Thread nD τ) none Set.univ) (by unfold N; rfl) (expect_recv m ρ c h) (fun _ => pure ⟨⟩) Q) $$ [Hc HO Ha]
    · isplitr; · iexact HI
      isplitl [Hc]; · iexact Hc
      isplitl [HO]; · iexact HO
      iexact Ha
    iintro ⟨HO, Ha, -, Hpay⟩
    ihave Hp := (Entails.of_eq (rest_recv m ρ c h)) $$ Hpay
    iapply (run_pure (F := F) c PUnit.unit Q)
    iapply Hk
    isplitl [HO]; · iexact HO
    isplitl [Hp]; · iexact Hp
    iexact Ha

/-- What a device waits for a copy of its own with: the copy's credit; the rows where there was no copy. -/
def leaving (c : Dev nD) (j : Fin 32) : sProp 𝕄 :=
  if j = c then qPts c j (xqAt m ρ c) else cred (tallyAt (sendCell c j) () N)

/-- The wait for the copy to device `j` to have left brings the rows back. -/
theorem send_wait (c : Dev nD) (j : Fin 32) (Q : PUnit → sProp 𝕄) :
    iprop(records m ρ K ∗ owesS c 0 ∗ leaving m ρ c j ∗ atPos ER (sendCell c j) 0 ∅ 0)
      ⊢ iprop(((owesS c 0 ∗ qPts c j (xqAt m ρ c) ∗ atPos ER (sendCell c j) (lastOf c (cSend j)) ∅ 0) -∗ Q ⟨⟩)
          -∗ run c (sendWait (F := F) c j) Q) := by
  unfold sendWait leaving
  show _ ⊢ iprop(((_ ∗ _ ∗ atPos ER (sendCell c j) (if j = c then 0 else 1) ∅ 0) -∗ _) -∗ _)
  by_cases h : j = c
  · rw [dif_neg (fun h' => (on_iff c j).mp h' h), if_pos h, if_pos h]
    iintro ⟨-, HO, Hs, Ha⟩ Hk
    iapply (run_pure (F := F) c PUnit.unit Q)
    iapply Hk
    isplitl [HO]; · iexact HO
    isplitl [Hs]; · iexact Hs
    iexact Ha
  · rw [dif_pos ((on_iff c j).mpr h), if_neg h, if_neg h]
    iintro ⟨#HR, HO, Hc, Ha⟩ Hk
    ihave #HI := (inv_at m ρ K (c, cSend j)) $$ HR
    iapply (wait_core m ρ c (K (c, cSend j)) (n := N) (R := 0)
      (wpE_waitDma2_eq 𝒱₀ (c : Thread nD τ) none Set.univ) (by unfold N; rfl) (expect_send m ρ c h) (fun _ => pure ⟨⟩) Q) $$ [Hc HO Ha]
    · isplitr; · iexact HI
      isplitl [Hc]; · iexact Hc
      isplitl [HO]; · iexact HO
      iexact Ha
    iintro ⟨HO, Ha, -, Hpay⟩
    ihave Hp := (Entails.of_eq (rest_send m ρ c h)) $$ Hpay
    iapply (run_pure (F := F) c PUnit.unit Q)
    iapply Hk
    isplitl [HO]; · iexact HO
    isplitl [Hp]; · iexact Hp
    iexact Ha

end Cert.KernelIdeal.AG

end
-- ==== Proof.KernelIdeal.Local.lean ====
/-
What the remaining steps of the body do: the copies of the second factor, and the loads and stores of a
device's own buffers.
-/
module

public import proofs.«01_k».proof.Proof.KernelIdeal.Rules

@[expose] public section

set_option synthInstance.maxSize 4096

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-! ## The second factor's copies -/

/-- The start of the copy of half `h` of chunk `k`. -/
theorem w_start (c : Dev nD) (k : Fin 8) (h : Fin 2) (Q : PUnit → sProp 𝕄) :
    iprop(records m ρ K ∗ wPts m ρ c k h ∗ (∃ f, bPts c (slotOf k) h f)
        ∗ dutyTok ER (wCell c (slotOf k) h) (k.val / 2) 0 ∗ reached ER (wCell c (slotOf k) h) (k.val / 2))
      ⊢ iprop((cred (tallyAt (wCell c (slotOf k) h) () NW) -∗ Q ⟨⟩) -∗ run c (wStart (F := F) k h) Q) := by
  have hr : k.val / 2 < 4 := by omega
  unfold wStart wPts
  simp only [Prog.lift]
  iintro ⟨#HR, Hw, ⟨%f, Hb⟩, Ht, Hr⟩ Hk
  unfold bPts
  ihave #HI := (inv_at m ρ K (c, cW (slotOf k) h)) $$ HR
  iapply (Rounds.wp_copy_pointsTo 𝒱₀ ER (Rd m ρ) (c : Thread nD τ) none (κ := K (c, cW (slotOf k) h))
    (r := k.val / 2) (d := 0) (fd := f) (fs := wAt m ρ c)
    (by rw [duties_w m ρ c (slotOf k) h hr]; exact Finset.mem_singleton_self _) () NW (by unfold NW; rfl)
    (amount_at m ρ c (cW (slotOf k) h) (k.val / 2) 0)
    (by
      rw [payload_at m ρ c (cW (slotOf k) h) (k.val / 2) 0]
      show _ ⊢ iprop(bPts c (slotOf k) h (gAt m ρ c (chunkAt (slotOf k) (k.val / 2))) ∗ wPts m ρ c (chunkAt (slotOf k) (k.val / 2)) h)
      rw [chunkAt_slotOf]
      exact sep_mono_left (Entails.of_eq (pointsTo_congr (land_w m ρ c k h f))))) $$ [Hw Hb Ht Hr]
  · isplitr; · iexact HI
    isplitl [Hw]; · iexact Hw
    isplitl [Hb]; · iexact Hb
    isplitl [Ht]; · iexact Ht
    iexact Hr
  iintro Hc
  rw [wp_ret]; imodintro
  iapply Hk; iexact Hc

/-- The wait for half `h` of chunk `k`. -/
theorem w_wait (c : Dev nD) (k : Fin 8) (h : Fin 2) (Q : PUnit → sProp 𝕄) :
    iprop(records m ρ K ∗ owesS c 0 ∗ cred (tallyAt (wCell c (slotOf k) h) () NW) ∗ atPos ER (wCell c (slotOf k) h) (k.val / 2) ∅ 0)
      ⊢ iprop(((owesS c 0 ∗ atPos ER (wCell c (slotOf k) h) (k.val / 2 + 1) ∅ 0 ∗ reached ER (wCell c (slotOf k) h) (k.val / 2 + 1)
            ∗ bPts c (slotOf k) h (gAt m ρ c k) ∗ wPts m ρ c k h) -∗ Q ⟨⟩) -∗ run c (wWait (F := F) k h) Q) := by
  have hr : k.val / 2 < 4 := by omega
  unfold wWait
  simp only [Prog.lift]
  iintro ⟨#HR, HO, Hc, Ha⟩ Hk
  ihave #HI := (inv_at m ρ K (c, cW (slotOf k) h)) $$ HR
  iapply (wait_core m ρ c (K (c, cW (slotOf k) h)) (n := NW) (R := k.val / 2)
    (wpE_waitDma2_eq 𝒱₀ (c : Thread nD τ) none Set.univ) (by unfold NW; rfl) (expect_w m ρ c (slotOf k) h hr) .ret Q) $$ [Hc HO Ha]
  · isplitr; · iexact HI
    isplitl [Hc]; · iexact Hc
    isplitl [HO]; · iexact HO
    iexact Ha
  iintro ⟨HO, Ha, Hr, Hpay⟩
  ihave Hp := (Entails.of_eq (rest_w m ρ c (slotOf k) h hr)) $$ Hpay
  rw [chunkAt_slotOf]
  iapply (run_pure (F := F) c PUnit.unit Q)
  iapply Hk
  isplitl [HO]; · iexact HO
  isplitl [Ha]; · iexact Ha
  isplitl [Hr]; · iexact Hr
  iexact Hp

/-! ## Loads and stores -/

/-- A whole buffer of device `c`, held at contents `X`. -/
abbrev whole (c : Dev nD) (b : Ref sig .tc) (X : b.ty.Contents (Elt F)) : sProp 𝕄 := ((c : Thread nD τ).loc b) ↦{fullShare} X

/-- Two zeros are the zero offset. -/
theorem hz2 : (![0, 0] : Fin 2 → Nat) = fun _ => 0 := funext fun a => by fin_cases a <;> rfl

/-- Loading the first factor reads its whole block. -/
theorem load_x (c : Dev nD) (X : (cc0_stg0_0 : Ref sig .tc).ty.Contents (Elt F)) (Q : Vec F S4096x128 .f32 → sProp 𝕄) :
    whole c cc0_stg0_0 X ⊢ iprop((whole c cc0_stg0_0 X -∗ Q X) -∗ run c (loadX (F := F)) Q) := by
  unfold loadX
  simp only [Prog.lift]
  iintro H Hk
  iapply (wp_load 𝒱₀ (c : Thread nD τ) none Set.univ (m := xM) (Finset.subset_univ _)) $$ H
  iintro H
  rw [wp_ret]; imodintro
  have e : (xM : Memref sig .tc .vmem S4096x128 .f32).view.readAt (Elt F) (Rect.unit (s := S4096x128) ![0, 0] S4096x128.size inb_S4096x128_S4096x128_0_0).toLoadRect X = X :=
    Memref.readAt_unit_zero (Elt F) cc0_stg0_0 hz2 _ X
  rw [e]
  iapply Hk; iexact H

/-- Loading the quantised block reads it. -/
theorem load_q (c : Dev nD) (Q : Vec F S4096x128 .fp8e4m3 → sProp 𝕄) :
    iprop(∃ f, whole c cc0_scratch0 f) ⊢ iprop((∀ v, (∃ f, whole c cc0_scratch0 f) -∗ Q v) -∗ run c (loadQ (F := F)) Q) := by
  unfold loadQ
  simp only [Prog.lift]
  iintro ⟨%f, H⟩ Hk
  iapply (wp_load 𝒱₀ (c : Thread nD τ) none Set.univ (m := qM) (Finset.subset_univ _)) $$ H
  iintro H
  rw [wp_ret]; imodintro
  iapply Hk; iexists f; iexact H

/-- Storing the quantised block replaces it. -/
theorem store_q (c : Dev nD) (v : FVec F S4096x128 .fp8e4m3) (Q : PUnit → sProp 𝕄) :
    iprop(∃ f, whole c cc0_scratch0 f) ⊢ iprop((whole c cc0_scratch0 v -∗ Q ⟨⟩) -∗ run c (storeQ (F := F) v) Q) := by
  unfold storeQ
  simp only [Prog.lift]
  iintro ⟨%f, H⟩ Hk
  iapply (wp_store 𝒱₀ (c : Thread nD τ) none Set.univ (m := qM)
    (r := Rect.unit (s := S4096x128) ![0, 0] S4096x128.size inb_S4096x128_S4096x128_0_0) (Mk := Finset.univ) (Finset.subset_univ _)) $$ H
  iintro H
  rw [wp_ret]; imodintro
  iapply Hk
  have e : (qM.access (Rect.unit (s := S4096x128) ![0, 0] S4096x128.size inb_S4096x128_S4096x128_0_0)).write (Elt F) f v Finset.univ = v :=
    Memref.write_access_unit_zero_univ (Elt F) cc0_scratch0 hz2 inb_S4096x128_S4096x128_0_0 f v
  rw [e]; iexact H

/-- Loading the result reads it. -/
theorem load_o (c : Dev nD) (X : (cc0_stg3_0 : Ref sig .tc).ty.Contents (Elt F)) (Q : Vec F S128x8192 .f32 → sProp 𝕄) :
    whole c cc0_stg3_0 X ⊢ iprop((whole c cc0_stg3_0 X -∗ Q X) -∗ run c (loadO (F := F)) Q) := by
  unfold loadO
  simp only [Prog.lift]
  iintro H Hk
  iapply (wp_load 𝒱₀ (c : Thread nD τ) none Set.univ (m := oM) (Finset.subset_univ _)) $$ H
  iintro H
  rw [wp_ret]; imodintro
  have e : (oM : Memref sig .tc .vmem S128x8192 .f32).view.readAt (Elt F) (Rect.unit (s := S128x8192) ![0, 0] S128x8192.size inb_S128x8192_S128x8192_0_0).toLoadRect X = X :=
    Memref.readAt_unit_zero (Elt F) cc0_stg3_0 hz2 _ X
  rw [e]
  iapply Hk; iexact H

/-- Storing the result replaces it. -/
theorem store_o (c : Dev nD) (X v : (cc0_stg3_0 : Ref sig .tc).ty.Contents (Elt F)) (Q : PUnit → sProp 𝕄) :
    whole c cc0_stg3_0 X ⊢ iprop((whole c cc0_stg3_0 v -∗ Q ⟨⟩) -∗ run c (storeO (F := F) v) Q) := by
  unfold storeO
  simp only [Prog.lift]
  iintro H Hk
  iapply (wp_store 𝒱₀ (c : Thread nD τ) none Set.univ (m := oM)
    (r := Rect.unit (s := S128x8192) ![0, 0] S128x8192.size inb_S128x8192_S128x8192_0_0) (Mk := Finset.univ) (Finset.subset_univ _)) $$ H
  iintro H
  rw [wp_ret]; imodintro
  iapply Hk
  have e : (oM.access (Rect.unit (s := S128x8192) ![0, 0] S128x8192.size inb_S128x8192_S128x8192_0_0)).write (Elt F) X v Finset.univ = v :=
    Memref.write_access_unit_zero_univ (Elt F) cc0_stg3_0 hz2 inb_S128x8192_S128x8192_0_0 X v
  rw [e]; iexact H

/-- The one element of a scale. -/
def scaleOf (f : S1.Idx → Elt F .f32) : Elt F .f32 := f (Shape.Idx.first (s := S1) (by decide))

/-- An array of one element has one index. -/
theorem idx1_eq (x y : S1.Idx) : x = y := by
  funext a
  fin_cases a
  exact Subsingleton.elim (α := Fin 1) _ _

/-- Loading the first scale reads it. -/
theorem load_sx (c : Dev nD) (X : (cc0_stg1_0 : Ref sig .tc).ty.Contents (Elt F)) (Q : Elt F .f32 → sProp 𝕄) :
    whole c cc0_stg1_0 X ⊢ iprop((whole c cc0_stg1_0 X -∗ Q (scaleOf X)) -∗ run c (loadSx (F := F)) Q) := by
  unfold loadSx smemLoad
  iintro H Hk
  iapply (wp_smemLoadElt 𝒱₀ (c : Thread nD τ) none Set.univ (m := sxM)
    (r := Rect.unit (s := S1) ![0] S1.size inb_S1_S1_0) (S := Finset.univ) (f := X) (Finset.subset_univ _)) $$ H
  iintro H
  rw [wp_ret]; imodintro
  rw [show ∀ x, (sxM.access (Rect.unit (s := S1) ![0] S1.size inb_S1_S1_0)).read (Elt F) X x = scaleOf X from
    fun x => congrArg X (idx1_eq _ _)]
  iapply Hk; iexact H

/-- Loading the second scale reads it. -/
theorem load_sw (c : Dev nD) (X : (cc0_stg2_0 : Ref sig .tc).ty.Contents (Elt F)) (Q : Elt F .f32 → sProp 𝕄) :
    whole c cc0_stg2_0 X ⊢ iprop((whole c cc0_stg2_0 X -∗ Q (scaleOf X)) -∗ run c (loadSw (F := F)) Q) := by
  unfold loadSw smemLoad
  iintro H Hk
  iapply (wp_smemLoadElt 𝒱₀ (c : Thread nD τ) none Set.univ (m := swM)
    (r := Rect.unit (s := S1) ![0] S1.size inb_S1_S1_0) (S := Finset.univ) (f := X) (Finset.subset_univ _)) $$ H
  iintro H
  rw [wp_ret]; imodintro
  rw [show ∀ x, (swM.access (Rect.unit (s := S1) ![0] S1.size inb_S1_S1_0)).read (Elt F) X x = scaleOf X from
    fun x => congrArg X (idx1_eq _ _)]
  iapply Hk; iexact H

theorem set_ownRows (c : Dev nD) (o : Fin 2 → Nat) (e : o = ![128 * c.val, 0]) (hi : ∀ a, o a + S128x128.size a ≤ S4096x128.size a) :
    (qM.access (Rect.unit (s := S4096x128) o S128x128.size hi)).set = (qPiece c).view.set := by
  subst e; rfl

/-- Loading the device's own rows of its quantised block reads them. -/
theorem load_own (c : Dev nD) (Q : Vec F S128x128 .fp8e4m3 → sProp 𝕄) :
    qPts c c (xqAt m ρ c) ⊢ iprop((qPts c c (xqAt m ρ c) -∗ Q (ownRows m ρ c)) -∗ run c (loadOwn (F := F) c) Q) := by
  unfold loadOwn qPts ownRows
  simp only [Prog.lift]
  iintro H Hk
  iapply (wp_load_rect 𝒱₀ (c : Thread nD τ) none Set.univ (m := qM)
    (r := Rect.unit (s := S4096x128) (k0_off65 c) S128x128.size (k0_off65_inb c))
    (le_of_eq (set_ownRows c _ (k0_off65_eq c) (k0_off65_inb c)))) $$ H
  iintro H
  rw [wp_ret]; imodintro
  iapply Hk; iexact H

/-- Loading the device's own slot reads it. -/
theorem load_ownSlot (c : Dev nD) (Q : Vec F S1x128x128 .fp8e4m3 → sProp 𝕄) :
    iprop(∃ f, slotPts c c f) ⊢ iprop((∀ v, (∃ f, slotPts c c f) -∗ Q v) -∗ run c (loadOwnSlot (F := F) c) Q) := by
  unfold loadOwnSlot slotPts
  simp only [Prog.lift]
  iintro ⟨%f, H⟩ Hk
  iapply (wp_load_rect 𝒱₀ (c : Thread nD τ) none Set.univ (m := rM)
    (r := Rect.unit (s := S32x128x128) (k0_off66 c) S1x128x128.size (k0_off66_inb c))
    (le_of_eq (set_own c _ (k0_off66_eq c) (k0_off66_inb c)))) $$ H
  iintro H
  rw [wp_ret]; imodintro
  iapply Hk; iexists f; iexact H

/-- Storing the device's own rows fills its own slot. -/
theorem store_own (c : Dev nD) (Q : PUnit → sProp 𝕄) :
    iprop(∃ f, slotPts c c f) ⊢ iprop((slotPts c c (rowsAt m ρ c) -∗ Q ⟨⟩) -∗ run c (storeOwn (F := F) c (k0_pay3 (ownRows m ρ c))) Q) := by
  unfold storeOwn slotPts
  simp only [Prog.lift]
  iintro ⟨%f, H⟩ Hk
  iapply (wp_store 𝒱₀ (c : Thread nD τ) none Set.univ (m := rM)
    (r := Rect.unit (s := S32x128x128) (k0_off66 c) S1x128x128.size (k0_off66_inb c)) (Mk := Finset.univ)
    (le_of_eq (set_own c _ (k0_off66_eq c) (k0_off66_inb c)))) $$ H
  iintro H
  rw [wp_ret]; imodintro
  iapply Hk
  have e : ((slot c).view.loc (c : Thread nD τ) ↦[(slot c).view.set]{fullShare}
        ((rM.access (Rect.unit (s := S32x128x128) (k0_off66 c) S1x128x128.size (k0_off66_inb c))).write (Elt F) f (k0_pay3 (ownRows m ρ c)) Finset.univ) : sProp 𝕄)
      = ((slot c).view.loc (c : Thread nD τ) ↦[(slot c).view.set]{fullShare} rowsAt m ρ c) :=
    pointsTo_congr (land_own m ρ c f _ (k0_off66_eq c) (k0_off66_inb c))
  iapply (Entails.of_eq e)
  iexact H

/-- Slot `j` as loaded, the landing buffer full. -/
def slotV (c : Dev nD) (j : Fin 32) : Vec F S1x128x128 .fp8e4m3 :=
  (rM.access (Rect.unit (s := S32x128x128) ![j.val, 0, 0] S1x128x128.size (inbR j))).read (Elt F) (rowsAt m ρ c)

/-- Loading a slot reads what its sender put there. -/
theorem load_slot (c : Dev nD) (j : Fin 32) (Q : Vec F S1x128x128 .fp8e4m3 → sProp 𝕄) :
    slotPts c j (rowsAt m ρ c) ⊢ iprop((slotPts c j (rowsAt m ρ c) -∗ Q (slotV m ρ c j)) -∗ run c (loadSlot (F := F) j) Q) := by
  unfold loadSlot slotPts slotV
  simp only [Prog.lift]
  iintro H Hk
  iapply (wp_load_rect 𝒱₀ (c : Thread nD τ) none Set.univ (m := rM)
    (r := Rect.unit (s := S32x128x128) ![j.val, 0, 0] S1x128x128.size (inbR j))
    (le_of_eq (set_own j _ rfl (inbR j)))) $$ H
  iintro H
  rw [wp_ret]; imodintro
  iapply Hk; iexact H

/-- Buffer `s` as loaded, chunk `k` in it. -/
def bufV (c : Dev nD) (k : Fin 8) : Vec F S1x512x8192 .f32 :=
  (bM.access (bSlot (slotOf k))).read (Elt F) (gAt m ρ c k)

/-- Buffer `s` held is its halves held. -/
theorem buf_halves (c : Dev nD) (s : Fin 2) (f : (cc0_scratch2 : Ref sig .tc).ty.Contents (Elt F)) :
    ((bM.view.loc (c : Thread nD τ)) ↦[(bSlot s).set]{fullShare} f : sProp 𝕄) = iprop(bPts c s 0 f ∗ bPts c s 1 f) := by
  rw [split_by_key (ℓ := bM.view.loc (c : Thread nD τ)) f (bSlot s).set (fun h : Fin 2 => (bPiece s h).view.set)
    (fun i => (⟨((show S2x512x8192.Idx from i) 2).val / 4096, half_lt ((show S2x512x8192.Idx from i) 2).isLt⟩ : Fin 2)) (fun h i => mem_bSlot s h i), bigSep_fin_two]
  rfl

/-- Loading a slot of the second factor's buffer reads the chunk in it. -/
theorem load_w (c : Dev nD) (k : Fin 8) (Q : Vec F S1x512x8192 .f32 → sProp 𝕄) :
    iprop(bPts c (slotOf k) 0 (gAt m ρ c k) ∗ bPts c (slotOf k) 1 (gAt m ρ c k))
      ⊢ iprop(((bPts c (slotOf k) 0 (gAt m ρ c k) ∗ bPts c (slotOf k) 1 (gAt m ρ c k)) -∗ Q (bufV m ρ c k)) -∗ run c (loadW (F := F) (slotOf k)) Q) := by
  rw [← buf_halves]
  unfold loadW bufV
  simp only [Prog.lift]
  iintro H Hk
  iapply (wp_load_rect 𝒱₀ (c : Thread nD τ) none Set.univ (m := bM) (r := bSlot (slotOf k))
    (le_of_eq (View.set_slice_whole cc0_scratch2 (bSlot (slotOf k))))) $$ H
  iintro H
  rw [wp_ret]; imodintro
  iapply Hk; iexact H

end Cert.KernelIdeal.AG

end
-- ==== Proof.KernelIdeal.Loops.lean ====
/-
The loops of the body: a rule for a step repeated over a list, and with it the handshake, the sends, the chunks of
the contraction and the waits for the sends.
-/
module

public import proofs.«01_k».proof.Proof.KernelIdeal.Local

@[expose] public section

set_option synthInstance.maxSize 4096

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-- The members of a list each hold something. -/
def sepL {α : Type} (l : List α) (Φ : α → sProp 𝕄) : sProp 𝕄 := l.foldr (fun a R => iprop(Φ a ∗ R)) iprop(emp)

/-- The head apart from the tail. -/
theorem sepL_cons {α : Type} (a : α) (l : List α) (Φ : α → sProp 𝕄) : sepL (a :: l) Φ = iprop(Φ a ∗ sepL l Φ) := rfl

/-- A list without repetitions: what its members hold is what the set of them holds. -/
theorem bigSep_toFinset {α : Type} [DecidableEq α] (l : List α) (hl : l.Nodup) (Φ : α → sProp 𝕄) :
    bigSep l.toFinset Φ = sepL l Φ := by
  induction l with
  | nil => exact bigSep_empty
  | cons a l ih =>
    rw [List.toFinset_cons, bigSep_insert (fun h => (List.nodup_cons.mp hl).1 (List.mem_toFinset.mp h)), ih (List.nodup_cons.mp hl).2]
    rfl

/-- A product over all numbers below `n`, as the product over their list. -/
theorem bigSep_finRange (n : ℕ) (Φ : Fin n → sProp 𝕄) : bigSep Finset.univ Φ = sepL (List.finRange n) Φ := by
  rw [← bigSep_toFinset _ (List.nodup_finRange n), List.toFinset_finRange]

/-- A step over a list: the step at place `i` turns what its member holds, and the loop's own state at `i`, into what
    the member is to hold and the state at `i + 1`. -/
theorem run_forEach {α : Type} (c : Dev nD) (f : α → P F PUnit) (R S : α → sProp 𝕄) (C : ℕ → sProp 𝕄) (l : List α) : ∀ (n : ℕ),
    (∀ (i : ℕ) (h : i < l.length) (Q : PUnit → sProp 𝕄),
      iprop(C (n + i) ∗ R l[i]) ⊢ iprop(((C (n + i + 1) ∗ S l[i]) -∗ Q ⟨⟩) -∗ run c (f l[i]) Q)) →
    ∀ Q : PUnit → sProp 𝕄, iprop(C n ∗ sepL l R) ⊢ iprop(((C (n + l.length) ∗ sepL l S) -∗ Q ⟨⟩) -∗ run c (forEach l f) Q) := by
  induction l with
  | nil =>
    intro n _ Q
    rw [forEach_nil]
    iintro ⟨HC, H⟩ Hk
    iapply (run_pure (F := F) c PUnit.unit Q)
    iapply Hk
    isplitl [HC]; · iexact HC
    iexact H
  | cons a l ih =>
    intro n hstep Q
    rw [forEach_cons, run_bind, sepL_cons, sepL_cons]
    have h0 : ∀ Q : PUnit → sProp 𝕄, iprop(C n ∗ R a) ⊢ iprop(((C (n + 1) ∗ S a) -∗ Q ⟨⟩) -∗ run c (f a) Q) :=
      hstep 0 (Nat.zero_lt_succ _)
    iintro ⟨HC, HR, H⟩ Hk
    iapply (h0 _) $$ [HC HR]
    · isplitl [HC]; · iexact HC
      iexact HR
    iintro ⟨HC, HS⟩
    have ih' := ih (n + 1) (fun i h Q => by
      have := hstep (i + 1) (Nat.succ_lt_succ h) Q
      rw [show n + (i + 1) = n + 1 + i from by omega] at this
      exact this) Q
    iapply ih' $$ [HC H]
    · isplitl [HC]; · iexact HC
      iexact H
    iintro ⟨HC, HSS⟩
    iapply Hk
    rw [show n + (a :: l).length = n + 1 + l.length from by rw [List.length_cons]; omega]
    isplitl [HC]; · iexact HC
    isplitl [HS]; · iexact HS
    iexact HSS

/-- A step over `Fin n`. -/
theorem run_range (c : Dev nD) {n : ℕ} (f : Fin n → P F PUnit) (R S : Fin n → sProp 𝕄) (C : ℕ → sProp 𝕄)
    (hstep : ∀ (j : Fin n) (Q : PUnit → sProp 𝕄), iprop(C j.val ∗ R j) ⊢ iprop(((C (j.val + 1) ∗ S j) -∗ Q ⟨⟩) -∗ run c (f j) Q))
    (Q : PUnit → sProp 𝕄) :
    iprop(C 0 ∗ bigSep Finset.univ R) ⊢ iprop(((C n ∗ bigSep Finset.univ S) -∗ Q ⟨⟩) -∗ run c (forEach (List.finRange n) f) Q) := by
  rw [bigSep_finRange, bigSep_finRange]
  have h := run_forEach c f R S C (List.finRange n) 0 (fun i h Q => by
    have hi : i < n := by rwa [List.length_finRange] at h
    have e : (List.finRange n)[i] = ⟨i, hi⟩ := by simp
    rw [e, Nat.zero_add]
    exact hstep ⟨i, hi⟩ Q) Q
  rwa [List.length_finRange, Nat.zero_add] at h

/-! ## The handshake and the sends -/

/-- The landing buffer whole is its slots. -/
theorem slots_split (c : Dev nD) (f : (cc0_scratch1 : Ref sig .tc).ty.Contents (Elt F)) :
    whole c cc0_scratch1 f = bigSep Finset.univ fun j : Fin 32 => slotPts c j f :=
  split_by_key (ℓ := (c : Thread nD τ).loc cc0_scratch1) f Finset.univ (fun j : Fin 32 => (slot j).view.set)
    (fun i => (⟨((show S32x128x128.Idx from i) 0).val, ((show S32x128x128.Idx from i) 0).isLt⟩ : Fin 32)) (fun j i => mem_slot j i)

/-- The narrowed block whole is the devices' rows. -/
theorem rows_split (c : Dev nD) (f : (cc0_scratch0 : Ref sig .tc).ty.Contents (Elt F)) :
    whole c cc0_scratch0 f = bigSep Finset.univ fun j : Fin 32 => qPts c j f :=
  split_by_key (ℓ := (c : Thread nD τ).loc cc0_scratch0) f Finset.univ (fun j : Fin 32 => (qPiece j).view.set)
    (fun i => (⟨((show S4096x128.Idx from i) 0).val / 128, by
      have h : ((show S4096x128.Idx from i) 0).val < 4096 := ((show S4096x128.Idx from i) 0).isLt
      omega⟩ : Fin 32)) (fun j i => mem_qPiece j i)

/-- The second factor whole is its pieces. -/
theorem w_split (c : Dev nD) :
    whole c main_arg1 (wAt m ρ c) = bigSep Finset.univ fun kh : Fin 8 × Fin 2 => wPts m ρ c kh.1 kh.2 :=
  split_by_key (ℓ := (c : Thread nD τ).loc main_arg1) (wAt m ρ c) Finset.univ (fun kh : Fin 8 × Fin 2 => (wPiece kh.1 kh.2).view.set)
    (fun i => ((⟨((show S4096x8192.Idx from i) 0).val / 512, by
      have h : ((show S4096x8192.Idx from i) 0).val < 4096 := ((show S4096x8192.Idx from i) 0).isLt
      omega⟩ : Fin 8), (⟨((show S4096x8192.Idx from i) 1).val / 4096, half_lt ((show S4096x8192.Idx from i) 1).isLt⟩ : Fin 2)))
    (fun kh i => mem_wPiece kh i)

/-- The two buffers whole are their halves. -/
theorem bufs_split (c : Dev nD) (f : (cc0_scratch2 : Ref sig .tc).ty.Contents (Elt F)) :
    whole c cc0_scratch2 f = bigSep Finset.univ fun sh : Fin 2 × Fin 2 => bPts c sh.1 sh.2 f :=
  split_by_key (ℓ := (c : Thread nD τ).loc cc0_scratch2) f Finset.univ (fun sh : Fin 2 × Fin 2 => (bPiece sh.1 sh.2).view.set)
    (fun i => ((⟨((show S2x512x8192.Idx from i) 0).val, ((show S2x512x8192.Idx from i) 0).isLt⟩ : Fin 2),
      (⟨((show S2x512x8192.Idx from i) 2).val / 4096, half_lt ((show S2x512x8192.Idx from i) 2).isLt⟩ : Fin 2)))
    (fun sh i => mem_bPiece sh i)

/-- The signals: every device is handed its slot. -/
theorem sig_loop (c : Dev nD) (Q : PUnit → sProp 𝕄) :
    iprop((records m ρ K ∗ owesS c (O₀ c)) ∗ bigSep Finset.univ fun j : Fin 32 => iprop(dutyTok ER (barCell j) 0 c ∗ ∃ f, slotPts c j f))
      ⊢ iprop((owesS c (recvRem c 0) -∗ Q ⟨⟩) -∗ run c (forEach all32 (sigStep (F := F))) Q) := by
  have h := run_range c (sigStep (F := F)) (fun j : Fin 32 => iprop(dutyTok ER (barCell j) 0 c ∗ ∃ f, slotPts (F := F) c j f)) (fun _ => iprop(emp))
    (fun n => iprop(records m ρ K ∗ owesS c (recvRem c 0 + barRem n))) (fun j Q => by
      iintro ⟨⟨#HR, HO⟩, Ht, Hs⟩ Hk
      iapply (sig_step m ρ K c j Q) $$ [HO Ht Hs]
      · isplitr; · iexact HR
        isplitl [HO]; · iexact HO
        isplitl [Ht]; · iexact Ht
        iexact Hs
      iintro HO
      iapply Hk
      isplitl [HO]
      · isplitr; · iexact HR
        iexact HO
      iempintro) Q
  refine h.trans ?_
  iintro H Hk
  iapply H
  iintro ⟨⟨-, HO⟩, -⟩
  iapply Hk
  rw [barRem_end, add_zero]
  iexact HO

/-- The sends: every device is sent its rows. -/
theorem send_loop (c : Dev nD) (Q : PUnit → sProp 𝕄) :
    iprop((records m ρ K ∗ owesS c (recvRem c 0)) ∗ bigSep Finset.univ fun j : Fin 32 =>
        iprop(qPts c j (xqAt m ρ c) ∗ (∃ f, slotPts j c f) ∗ dutyTok ER (sendCell c j) 0 0 ∗ dutyTok ER (recvCell j c) 0 0))
      ⊢ iprop(((owesS c 0 ∗ bigSep Finset.univ (sent m ρ c)) -∗ Q ⟨⟩) -∗ run c (forEach all32 (sendStep (F := F) c)) Q) := by
  have h := run_range c (sendStep (F := F) c)
    (fun j : Fin 32 => iprop(qPts c j (xqAt m ρ c) ∗ (∃ f, slotPts j c f) ∗ dutyTok ER (sendCell c j) 0 0 ∗ dutyTok ER (recvCell j c) 0 0))
    (sent m ρ c) (fun n => iprop(records m ρ K ∗ owesS c (recvRem c n))) (fun j Q => by
      iintro ⟨⟨#HR, HO⟩, H⟩ Hk
      iapply (send_step m ρ K c j Q) $$ [HO H]
      · isplitr; · iexact HR
        isplitl [HO]; · iexact HO
        iexact H
      iintro ⟨HO, HS⟩
      iapply Hk
      isplitl [HO]
      · isplitr; · iexact HR
        iexact HO
      iexact HS) Q
  refine h.trans ?_
  iintro H Hk
  iapply H
  iintro ⟨⟨-, HO⟩, HS⟩
  iapply Hk
  rw [recvRem_end]
  isplitl [HO]; · iexact HO
  iexact HS

/-- The waits for the sends: the narrowed block is the device's again. -/
theorem wait_loop (c : Dev nD) (Q : PUnit → sProp 𝕄) :
    iprop((records m ρ K ∗ owesS c 0) ∗ bigSep Finset.univ fun j : Fin 32 => iprop(leaving m ρ c j ∗ atPos ER (sendCell c j) 0 ∅ 0))
      ⊢ iprop(((owesS c 0 ∗ bigSep Finset.univ fun j : Fin 32 =>
          iprop(qPts c j (xqAt m ρ c) ∗ atPos ER (sendCell c j) (lastOf c (cSend j)) ∅ 0)) -∗ Q ⟨⟩) -∗ run c (forEach all32 (sendWait (F := F) c)) Q) := by
  have h := run_range c (sendWait (F := F) c)
    (fun j : Fin 32 => iprop(leaving m ρ c j ∗ atPos ER (sendCell c j) 0 ∅ 0))
    (fun j : Fin 32 => iprop(qPts c j (xqAt m ρ c) ∗ atPos ER (sendCell c j) (lastOf c (cSend j)) ∅ 0))
    (fun n => iprop(records m ρ K ∗ owesS c 0)) (fun j Q => by
      iintro ⟨⟨#HR, HO⟩, H⟩ Hk
      iapply (send_wait m ρ K c j Q) $$ [HO H]
      · isplitr; · iexact HR
        isplitl [HO]; · iexact HO
        iexact H
      iintro ⟨HO, HS⟩
      iapply Hk
      isplitl [HO]
      · isplitr; · iexact HR
        iexact HO
      iexact HS) Q
  refine h.trans ?_
  iintro H Hk
  iapply H
  iintro ⟨⟨-, HO⟩, HS⟩
  iapply Hk
  isplitl [HO]; · iexact HO
  iexact HS

end Cert.KernelIdeal.AG

end
-- ==== Proof.KernelIdeal.Chunks.lean ====
/-
A chunk of the contraction: its four slots and its rows of the second factor come in, their product is added to the
output block, and the chunk after the next is started into the buffer just read.
-/
module

public import proofs.«01_k».proof.Proof.KernelIdeal.Loops

@[expose] public section

set_option synthInstance.maxSize 4096

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-! ## The halves of a chunk of the second factor -/

/-- A half not yet started: its source, and the right to its round. -/
def goW (c : Dev nD) (k : Fin 8) (h : Fin 2) : sProp 𝕄 :=
  iprop(wPts m ρ c k h ∗ dutyTok ER (wCell c (slotOf k) h) (k.val / 2) 0)
/-- The half of the buffer it goes to, free. -/
def freeW (c : Dev nD) (k : Fin 8) (h : Fin 2) : sProp 𝕄 :=
  iprop((∃ f, bPts (F := F) c (slotOf k) h f) ∗ atPos ER (wCell c (slotOf k) h) (k.val / 2) ∅ 0 ∗ reached ER (wCell c (slotOf k) h) (k.val / 2))
/-- A half under way. -/
def inW (c : Dev nD) (k : Fin 8) (h : Fin 2) : sProp 𝕄 :=
  iprop(cred (tallyAt (wCell c (slotOf k) h) () NW) ∗ atPos ER (wCell c (slotOf k) h) (k.val / 2) ∅ 0)
/-- A half landed. -/
def backW (c : Dev nD) (k : Fin 8) (h : Fin 2) : sProp 𝕄 :=
  iprop(bPts c (slotOf k) h (gAt m ρ c k) ∗ atPos ER (wCell c (slotOf k) h) (k.val / 2 + 1) ∅ 0 ∗ reached ER (wCell c (slotOf k) h) (k.val / 2 + 1))

theorem freeW_next (c : Dev nD) (k k' : Fin 8) (h : Fin 2) (hk : k'.val = k.val + 2) : backW m ρ c k h ⊢ freeW (F := F) c k' h := by
  have e1 : slotOf k' = slotOf k := by
    apply Fin.ext
    show k'.val % 2 = k.val % 2
    omega
  have e2 : k'.val / 2 = k.val / 2 + 1 := by omega
  unfold backW freeW
  rw [e1, e2]
  iintro ⟨Hb, Ha, Hr⟩
  isplitl [Hb]; · iexists _; iexact Hb
  isplitl [Ha]; · iexact Ha
  iexact Hr

/-- Both halves of a chunk start. -/
theorem w_start2 (c : Dev nD) (k : Fin 8) (Q : PUnit → sProp 𝕄) :
    iprop(records m ρ K ∗ (goW m ρ c k 0 ∗ goW m ρ c k 1) ∗ (freeW (F := F) c k 0 ∗ freeW (F := F) c k 1))
      ⊢ iprop(((inW (F := F) c k 0 ∗ inW (F := F) c k 1) -∗ Q ⟨⟩) -∗ run c (wStart2 (F := F) k) Q) := by
  unfold wStart2 goW freeW inW
  rw [run_bind]
  iintro ⟨#HR, ⟨⟨Hw0, Ht0⟩, ⟨Hw1, Ht1⟩⟩, ⟨⟨Hb0, Ha0, Hr0⟩, ⟨Hb1, Ha1, Hr1⟩⟩⟩ Hk
  iapply (w_start m ρ K c k 0 _) $$ [Hw0 Ht0 Hb0 Hr0]
  · isplitr; · iexact HR
    isplitl [Hw0]; · iexact Hw0
    isplitl [Hb0]; · iexact Hb0
    isplitl [Ht0]; · iexact Ht0
    iexact Hr0
  iintro Hc0
  iapply (w_start m ρ K c k 1 Q) $$ [Hw1 Ht1 Hb1 Hr1]
  · isplitr; · iexact HR
    isplitl [Hw1]; · iexact Hw1
    isplitl [Hb1]; · iexact Hb1
    isplitl [Ht1]; · iexact Ht1
    iexact Hr1
  iintro Hc1
  iapply Hk
  isplitl [Hc0 Ha0]
  · isplitl [Hc0]; · iexact Hc0
    iexact Ha0
  isplitl [Hc1]; · iexact Hc1
  iexact Ha1

/-! ## The product -/

/-- The output block after chunk `k` is added to `A`. -/
def accStep (c : Dev nD) (k : Fin 8) (A : (cc0_stg3_0 : Ref sig .tc).ty.Contents (Elt F)) : (cc0_stg3_0 : Ref sig .tc).ty.Contents (Elt F) :=
  k0_pay5 (slotV m ρ c (pk k 0)) (slotV m ρ c (pk k 1)) (slotV m ρ c (pk k 2)) (slotV m ρ c (pk k 3)) (bufV m ρ c k) A

/-- A slot yet to be waited for. -/
def waitR (c : Dev nD) (j : Fin 32) : sProp 𝕄 := iprop(coming m ρ c j ∗ atPos ER (recvCell c j) 0 ∅ 0)
/-- A slot that has come in. -/
def doneR (c : Dev nD) (j : Fin 32) : sProp 𝕄 := iprop(slotPts c j (rowsAt m ρ c) ∗ atPos ER (recvCell c j) (lastOf c (cRecv j)) ∅ 0)

/-- The four slots of a chunk. -/
abbrev four (Φ : Fin 32 → sProp 𝕄) (k : Fin 8) : sProp 𝕄 := iprop(Φ (pk k 0) ∗ Φ (pk k 1) ∗ Φ (pk k 2) ∗ Φ (pk k 3))

/-- The product of a chunk: everything is read, the output block is rewritten. -/
theorem compute_step (c : Dev nD) (k : Fin 8) (A : (cc0_stg3_0 : Ref sig .tc).ty.Contents (Elt F)) (Q : PUnit → sProp 𝕄) :
    iprop(four (fun j => slotPts c j (rowsAt m ρ c)) k ∗ (bPts c (slotOf k) 0 (gAt m ρ c k) ∗ bPts c (slotOf k) 1 (gAt m ρ c k)) ∗ whole c cc0_stg3_0 A)
      ⊢ iprop(((four (fun j => slotPts c j (rowsAt m ρ c)) k ∗ (bPts c (slotOf k) 0 (gAt m ρ c k) ∗ bPts c (slotOf k) 1 (gAt m ρ c k))
          ∗ whole c cc0_stg3_0 (accStep m ρ c k A)) -∗ Q ⟨⟩) -∗ run c (compute (F := F) k) Q) := by
  unfold compute four
  iintro ⟨⟨H0, H1, H2, H3⟩, Hb, Ho⟩ Hk
  rw [run_bind]
  iapply (load_slot m ρ c (pk k 0) _) $$ H0
  iintro H0
  rw [run_bind]
  iapply (load_slot m ρ c (pk k 1) _) $$ H1
  iintro H1
  rw [run_bind]
  iapply (load_slot m ρ c (pk k 2) _) $$ H2
  iintro H2
  rw [run_bind]
  iapply (load_slot m ρ c (pk k 3) _) $$ H3
  iintro H3
  rw [run_bind]
  iapply (load_w m ρ c k _) $$ Hb
  iintro Hb
  rw [run_bind]
  iapply (load_o c A _) $$ Ho
  iintro Ho
  rw [run_bind]
  iapply (load_o c A _) $$ Ho
  iintro Ho
  iapply (store_o c A (accStep m ρ c k A) Q) $$ Ho
  iintro Ho
  iapply Hk
  isplitl [H0 H1 H2 H3]
  · isplitl [H0]; · iexact H0
    isplitl [H1]; · iexact H1
    isplitl [H2]; · iexact H2
    iexact H3
  isplitl [Hb]; · iexact Hb
  iexact Ho

/-- A slot is waited for. -/
theorem recv_one (c : Dev nD) (j : Fin 32) (Q : PUnit → sProp 𝕄) :
    iprop(records m ρ K ∗ owesS c 0 ∗ waitR m ρ c j)
      ⊢ iprop(((owesS c 0 ∗ slotPts c j (rowsAt m ρ c) ∗ atPos ER (recvCell c j) (lastOf c (cRecv j)) ∅ 0) -∗ Q ⟨⟩) -∗ run c (recvStep (F := F) (meW c) j) Q) := by
  unfold waitR
  exact recv_step m ρ K c j Q

/-- Chunk `k`. -/
theorem chunk_step (c : Dev nD) (k : Fin 8) (A : (cc0_stg3_0 : Ref sig .tc).ty.Contents (Elt F)) (Q : PUnit → sProp 𝕄) :
    iprop(records m ρ K ∗ owesS c 0 ∗ four (waitR m ρ c) k ∗ (inW (F := F) c k 0 ∗ inW (F := F) c k 1) ∗ whole c cc0_stg3_0 A)
      ⊢ iprop(((owesS c 0 ∗ four (doneR m ρ c) k ∗ (backW m ρ c k 0 ∗ backW m ρ c k 1) ∗ (wPts m ρ c k 0 ∗ wPts m ρ c k 1)
          ∗ whole c cc0_stg3_0 (accStep m ρ c k A)) -∗ Q ⟨⟩) -∗ run c (chunk (F := F) (meW c) k) Q) := by
  unfold chunk four inW
  iintro ⟨#HR, HO, ⟨H0, H1, H2, H3⟩, ⟨⟨Hc0, Ha0⟩, ⟨Hc1, Ha1⟩⟩, Ho⟩ Hk
  rw [run_bind]
  iapply (recv_one m ρ K c (pk k 0) _) $$ [HO H0]
  · isplitr; · iexact HR
    isplitl [HO]; · iexact HO
    iexact H0
  iintro ⟨HO, H0, P0⟩
  rw [run_bind]
  iapply (recv_one m ρ K c (pk k 1) _) $$ [HO H1]
  · isplitr; · iexact HR
    isplitl [HO]; · iexact HO
    iexact H1
  iintro ⟨HO, H1, P1⟩
  rw [run_bind]
  iapply (recv_one m ρ K c (pk k 2) _) $$ [HO H2]
  · isplitr; · iexact HR
    isplitl [HO]; · iexact HO
    iexact H2
  iintro ⟨HO, H2, P2⟩
  rw [run_bind]
  iapply (recv_one m ρ K c (pk k 3) _) $$ [HO H3]
  · isplitr; · iexact HR
    isplitl [HO]; · iexact HO
    iexact H3
  iintro ⟨HO, H3, P3⟩
  rw [run_bind]
  iapply (w_wait m ρ K c k 0 _) $$ [HO Hc0 Ha0]
  · isplitr; · iexact HR
    isplitl [HO]; · iexact HO
    isplitl [Hc0]; · iexact Hc0
    iexact Ha0
  iintro ⟨HO, Ha0, Hr0, Hb0, Hw0⟩
  rw [run_bind]
  iapply (w_wait m ρ K c k 1 _) $$ [HO Hc1 Ha1]
  · isplitr; · iexact HR
    isplitl [HO]; · iexact HO
    isplitl [Hc1]; · iexact Hc1
    iexact Ha1
  iintro ⟨HO, Ha1, Hr1, Hb1, Hw1⟩
  iapply (compute_step m ρ c k A Q) $$ [H0 H1 H2 H3 Hb0 Hb1 Ho]
  · isplitl [H0 H1 H2 H3]
    · isplitl [H0]; · iexact H0
      isplitl [H1]; · iexact H1
      isplitl [H2]; · iexact H2
      iexact H3
    isplitl [Hb0 Hb1]
    · isplitl [Hb0]; · iexact Hb0
      iexact Hb1
    iexact Ho
  iintro ⟨⟨H0, H1, H2, H3⟩, ⟨Hb0, Hb1⟩, Ho⟩
  iapply Hk
  unfold doneR backW
  isplitl [HO]; · iexact HO
  isplitl [H0 H1 H2 H3 P0 P1 P2 P3]
  · isplitl [H0 P0]; · isplitl [H0]; · iexact H0
                       iexact P0
    isplitl [H1 P1]; · isplitl [H1]; · iexact H1
                       iexact P1
    isplitl [H2 P2]; · isplitl [H2]; · iexact H2
                       iexact P2
    isplitl [H3]; · iexact H3
    iexact P3
  isplitl [Hb0 Hb1 Ha0 Ha1 Hr0 Hr1]
  · isplitl [Hb0 Ha0 Hr0]
    · isplitl [Hb0]; · iexact Hb0
      isplitl [Ha0]; · iexact Ha0
      iexact Hr0
    isplitl [Hb1]; · iexact Hb1
    isplitl [Ha1]; · iexact Ha1
    iexact Hr1
  isplitl [Hw0 Hw1]
  · isplitl [Hw0]; · iexact Hw0
    iexact Hw1
  iexact Ho

/-! ## The chunks in turn -/

/-- A number as the name of a chunk. -/
def kk (n : ℕ) : Fin 8 := ⟨n % 8, Nat.mod_lt _ (by norm_num)⟩

/-- The output block after `n` chunks. -/
def accAt (c : Dev nD) : ℕ → (cc0_stg3_0 : Ref sig .tc).ty.Contents (Elt F)
  | 0 => k0_pay4 (F := F)
  | n + 1 => accStep m ρ c (kk n) (accAt c n)

/-- Chunk `k`, and the start of chunk `k + 2`. -/
theorem chunkThen_step (c : Dev nD) (t : Fin 6) (k k' : Fin 8) (hk : k.val = t.val) (hk' : k'.val = t.val + 2)
    (A : (cc0_stg3_0 : Ref sig .tc).ty.Contents (Elt F)) (Q : PUnit → sProp 𝕄) :
    iprop(records m ρ K ∗ owesS c 0 ∗ four (waitR m ρ c) k ∗ (goW m ρ c k' 0 ∗ goW m ρ c k' 1) ∗ (inW (F := F) c k 0 ∗ inW (F := F) c k 1) ∗ whole c cc0_stg3_0 A)
      ⊢ iprop(((owesS c 0 ∗ four (doneR m ρ c) k ∗ (inW (F := F) c k' 0 ∗ inW (F := F) c k' 1) ∗ (wPts m ρ c k 0 ∗ wPts m ρ c k 1)
          ∗ whole c cc0_stg3_0 (accStep m ρ c k A)) -∗ Q ⟨⟩) -∗ run c (chunkThen (F := F) (meW c) t) Q) := by
  have e : (⟨t.val, by omega⟩ : Fin 8) = k := Fin.ext hk.symm
  have e' : (⟨t.val + 2, by omega⟩ : Fin 8) = k' := Fin.ext hk'.symm
  unfold chunkThen
  rw [run_bind, e, e']
  iintro ⟨#HR, HO, H4, Hg, Hi, Ho⟩ Hk
  iapply (chunk_step m ρ K c k A _) $$ [HO H4 Hi Ho]
  · isplitr; · iexact HR
    isplitl [HO]; · iexact HO
    isplitl [H4]; · iexact H4
    isplitl [Hi]; · iexact Hi
    iexact Ho
  iintro ⟨HO, H4, ⟨Hb0, Hb1⟩, Hw, Ho⟩
  ihave Hf0 := (freeW_next m ρ c k k' 0 (by omega)) $$ Hb0
  ihave Hf1 := (freeW_next m ρ c k k' 1 (by omega)) $$ Hb1
  iapply (w_start2 m ρ K c k' Q) $$ [Hg Hf0 Hf1]
  · isplitr; · iexact HR
    isplitl [Hg]; · iexact Hg
    isplitl [Hf0]; · iexact Hf0
    iexact Hf1
  iintro Hi
  iapply Hk
  isplitl [HO]; · iexact HO
  isplitl [H4]; · iexact H4
  isplitl [Hi]; · iexact Hi
  isplitl [Hw]; · iexact Hw
  iexact Ho

/-- The chunk numbered by its own number. -/
theorem kk_val (k : Fin 8) : kk k.val = k := Fin.ext (Nat.mod_eq_of_lt k.isLt)

/-- The first six chunks. -/
theorem chunk_loop (c : Dev nD) (Q : PUnit → sProp 𝕄) :
    iprop((records m ρ K ∗ owesS c 0 ∗ (inW (F := F) c 0 0 ∗ inW (F := F) c 0 1) ∗ (inW (F := F) c 1 0 ∗ inW (F := F) c 1 1) ∗ whole c cc0_stg3_0 (accAt m ρ c 0))
        ∗ bigSep Finset.univ fun t : Fin 6 => iprop(four (waitR m ρ c) (kk t.val) ∗ (goW m ρ c (kk (t.val + 2)) 0 ∗ goW m ρ c (kk (t.val + 2)) 1)))
      ⊢ iprop((((records m ρ K ∗ owesS c 0 ∗ (inW (F := F) c 6 0 ∗ inW (F := F) c 6 1) ∗ (inW (F := F) c 7 0 ∗ inW (F := F) c 7 1) ∗ whole c cc0_stg3_0 (accAt m ρ c 6))
          ∗ bigSep Finset.univ fun t : Fin 6 => iprop(four (doneR m ρ c) (kk t.val) ∗ (wPts m ρ c (kk t.val) 0 ∗ wPts m ρ c (kk t.val) 1))) -∗ Q ⟨⟩)
          -∗ run c (forEach [0, 1, 2, 3, 4, 5] (chunkThen (F := F) (meW c))) Q) := by
  rw [show ([0, 1, 2, 3, 4, 5] : List (Fin 6)) = List.finRange 6 from by decide]
  exact run_range c (chunkThen (F := F) (meW c))
    (fun t : Fin 6 => iprop(four (waitR m ρ c) (kk t.val) ∗ (goW m ρ c (kk (t.val + 2)) 0 ∗ goW m ρ c (kk (t.val + 2)) 1)))
    (fun t : Fin 6 => iprop(four (doneR m ρ c) (kk t.val) ∗ (wPts m ρ c (kk t.val) 0 ∗ wPts m ρ c (kk t.val) 1)))
    (fun n => iprop(records m ρ K ∗ owesS c 0 ∗ (inW (F := F) c (kk n) 0 ∗ inW (F := F) c (kk n) 1)
      ∗ (inW (F := F) c (kk (n + 1)) 0 ∗ inW (F := F) c (kk (n + 1)) 1) ∗ whole c cc0_stg3_0 (accAt m ρ c n))) (fun t Q => by
      iintro ⟨⟨#HR, HO, Hi, Hi', Ho⟩, H4, Hg⟩ Hk
      iapply (chunkThen_step m ρ K c t (kk t.val) (kk (t.val + 2)) (Nat.mod_eq_of_lt (by omega)) (Nat.mod_eq_of_lt (by omega)) (accAt m ρ c t.val) Q) $$ [HO Hi Ho H4 Hg]
      · isplitr; · iexact HR
        isplitl [HO]; · iexact HO
        isplitl [H4]; · iexact H4
        isplitl [Hg]; · iexact Hg
        isplitl [Hi]; · iexact Hi
        iexact Ho
      iintro ⟨HO, H4, Hi, Hw, Ho⟩
      iapply Hk
      isplitl [HO Hi Hi' Ho]
      · isplitr; · iexact HR
        isplitl [HO]; · iexact HO
        isplitl [Hi']; · iexact Hi'
        isplitl [Hi]; · iexact Hi
        iexact Ho
      isplitl [H4]; · iexact H4
      iexact Hw) Q

/-! ## The last step -/

/-- What device `c` computes. -/
def outAt (c : Dev nD) : (cc0_stg3_0 : Ref sig .tc).ty.Contents (Elt F) :=
  k0_pay21 (k0_pay19 (scaleOf (sxstg m ρ c)) (scaleOf (swstg m ρ c)) (accAt m ρ c 8)) (k0_pay20 (F := F))

theorem epilogue_step (c : Dev nD) (Q : PUnit → sProp 𝕄) :
    iprop(whole c cc0_stg1_0 (sxstg m ρ c) ∗ whole c cc0_stg2_0 (swstg m ρ c) ∗ whole c cc0_stg3_0 (accAt m ρ c 8))
      ⊢ iprop(((whole c cc0_stg1_0 (sxstg m ρ c) ∗ whole c cc0_stg2_0 (swstg m ρ c) ∗ whole c cc0_stg3_0 (outAt m ρ c)) -∗ Q ⟨⟩)
          -∗ run c (epilogue (F := F)) Q) := by
  unfold epilogue
  iintro ⟨Hx, Hw, Ho⟩ Hk
  rw [run_bind]
  iapply (load_sx c (sxstg m ρ c) _) $$ Hx
  iintro Hx
  rw [run_bind]
  iapply (load_sw c (swstg m ρ c) _) $$ Hw
  iintro Hw
  rw [run_bind]
  iapply (load_o c (accAt m ρ c 8) _) $$ Ho
  iintro Ho
  rw [run_bind]
  iapply (load_o c (accAt m ρ c 8) _) $$ Ho
  iintro Ho
  iapply (store_o c (accAt m ρ c 8) (outAt m ρ c) Q) $$ Ho
  iintro Ho
  iapply Hk
  isplitl [Hx]; · iexact Hx
  isplitl [Hw]; · iexact Hw
  iexact Ho

end Cert.KernelIdeal.AG

end
-- ==== Proof.KernelIdeal.Group.lean ====
/-
How the pieces a device holds are grouped for the steps of its body: by slot, by chunk, by half.
-/
module

public import proofs.«01_k».proof.Proof.KernelIdeal.Chunks

@[expose] public section

set_option synthInstance.maxSize 4096

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-- Two halves. -/
theorem two (Φ : Fin 2 → sProp 𝕄) : bigSep Finset.univ Φ = iprop(Φ 0 ∗ Φ 1) := bigSep_fin_two Φ

/-- Two buffers' halves. -/
theorem two_two (Φ : Fin 2 × Fin 2 → sProp 𝕄) :
    bigSep Finset.univ Φ = iprop((Φ (0, 0) ∗ Φ (0, 1)) ∗ (Φ (1, 0) ∗ Φ (1, 1))) := by
  rw [bigSep_univ_prod, two, two, two]

/-! ## Chunks and their slots -/

/-- The slots are the chunks' slots. -/
theorem by_chunk (Φ : Fin 32 → sProp 𝕄) : bigSep Finset.univ Φ = bigSep Finset.univ fun k : Fin 8 => four Φ k := by
  have e : ∀ k : Fin 8, four Φ k = bigSep Finset.univ fun i : Fin 4 => Φ (pk k i) := fun k => by
    rw [show (Finset.univ : Finset (Fin 4)) = {0, 1, 2, 3} from by decide, bigSep_insert (by decide), bigSep_insert (by decide),
      bigSep_insert (by decide), bigSep_singleton]
    rfl
  rw [bigSep_congr (fun k _ => e k), ← bigSep_univ_prod (fun ki : Fin 8 × Fin 4 => Φ (pk ki.1 ki.2)),
    bigSep_univ_equiv (finProdFinEquiv : Fin 8 × Fin 4 ≃ Fin 32)]
  refine bigSep_congr fun ki _ => congrArg Φ (Fin.ext ?_)
  show ki.2.val + 4 * ki.1.val = 4 * ki.1.val + ki.2.val
  omega

/-- The chunks are the first six and the last two. -/
theorem chunks_last (Ψ : Fin 8 → sProp 𝕄) :
    bigSep Finset.univ Ψ = iprop((bigSep Finset.univ fun t : Fin 6 => Ψ (kk t.val)) ∗ Ψ 6 ∗ Ψ 7) := by
  rw [bigSep_univ_equiv (finSumFinEquiv : Fin 6 ⊕ Fin 2 ≃ Fin 8), bigSep_univ_sum, two]
  refine congrArg (fun X : sProp 𝕄 => iprop(X ∗ Ψ 6 ∗ Ψ 7)) ?_
  exact bigSep_congr fun t _ => congrArg Ψ (Fin.ext (show t.val = t.val % 8 by omega))

/-- The chunks are the first two and the last six. -/
theorem chunks_first (Ψ : Fin 8 → sProp 𝕄) :
    bigSep Finset.univ Ψ = iprop((Ψ 0 ∗ Ψ 1) ∗ bigSep Finset.univ fun t : Fin 6 => Ψ (kk (t.val + 2))) := by
  rw [bigSep_univ_equiv (finSumFinEquiv : Fin 2 ⊕ Fin 6 ≃ Fin 8), bigSep_univ_sum, two]
  refine congrArg (fun X : sProp 𝕄 => iprop((Ψ 0 ∗ Ψ 1) ∗ X)) ?_
  exact bigSep_congr fun t _ => congrArg Ψ (Fin.ext (show 2 + t.val = (t.val + 2) % 8 by omega))

/-! ## The second factor -/

/-- The second factor whole, with the rights to its copies, is the halves to be started. -/
theorem go_all (c : Dev nD) :
    iprop(whole c main_arg1 (wAt m ρ c) ∗ bigSep Finset.univ fun kh : Fin 8 × Fin 2 => dutyTok ER (wCell c (slotOf kh.1) kh.2) (kh.1.val / 2) 0)
      = iprop(((goW m ρ c 0 0 ∗ goW m ρ c 0 1) ∗ (goW m ρ c 1 0 ∗ goW m ρ c 1 1))
          ∗ bigSep Finset.univ fun t : Fin 6 => iprop(goW m ρ c (kk (t.val + 2)) 0 ∗ goW m ρ c (kk (t.val + 2)) 1)) := by
  rw [w_split, ← bigSep_sep', bigSep_univ_prod, bigSep_congr (fun k _ => two _)]
  exact chunks_first (fun k => iprop(goW m ρ c k 0 ∗ goW m ρ c k 1))

/-- The halves back are the second factor whole. -/
theorem w_back (c : Dev nD) :
    iprop((bigSep Finset.univ fun t : Fin 6 => iprop(wPts m ρ c (kk t.val) 0 ∗ wPts m ρ c (kk t.val) 1))
        ∗ (wPts m ρ c 6 0 ∗ wPts m ρ c 6 1) ∗ (wPts m ρ c 7 0 ∗ wPts m ρ c 7 1))
      = whole c main_arg1 (wAt m ρ c) := by
  rw [w_split, bigSep_univ_prod, bigSep_congr (fun k _ => two _)]
  exact (chunks_last (fun k => iprop(wPts m ρ c k 0 ∗ wPts m ρ c k 1))).symm

/-- The two buffers whole are their four halves. -/
theorem bufs_four (c : Dev nD) (f : (cc0_scratch2 : Ref sig .tc).ty.Contents (Elt F)) :
    whole c cc0_scratch2 f = iprop((bPts c 0 0 f ∗ bPts c 0 1 f) ∗ (bPts c 1 0 f ∗ bPts c 1 1 f)) := by
  rw [bufs_split, two_two]

/-- The buffers with chunks six and seven in them are the buffers whole. -/
theorem bufs_join (c : Dev nD) (f g : (cc0_scratch2 : Ref sig .tc).ty.Contents (Elt F)) :
    iprop((bPts c 0 0 f ∗ bPts c 0 1 f) ∗ (bPts c 1 0 g ∗ bPts c 1 1 g)) ⊢ iprop(∃ f, whole c cc0_scratch2 f) := by
  let u : (cc0_scratch2 : Ref sig .tc).ty.Contents (Elt F) := fun i => if ((show S2x512x8192.Idx from i) 0).val = 0 then f i else g i
  have key : ∀ (s h : Fin 2) (i : S2x512x8192.Idx), i ∈ (bPiece s h).view.set → (i 0).val = s.val := fun s h i hi =>
    congrArg (fun p : Fin 2 × Fin 2 => p.1.val) ((mem_bPiece (s, h) i).mp hi).2
  have e0 : ∀ h : Fin 2, bPts c 0 h f = bPts c 0 h u := fun h => by
    unfold bPts
    refine pointsTo_congr fun i hi => ?_
    exact (if_pos (key 0 h i hi)).symm
  have e1 : ∀ h : Fin 2, bPts c 1 h g = bPts c 1 h u := fun h => by
    unfold bPts
    refine pointsTo_congr fun i hi => ?_
    exact (if_neg (by
      have := key 1 h i hi
      rw [this]; decide)).symm
  rw [e0, e0, e1, e1, ← bufs_four]
  iintro H
  iexists u
  iexact H

/-- The four halves at launch are free for chunks zero and one. -/
theorem free_first (c : Dev nD) :
    iprop(records m ρ K ∗ (∃ f, whole c cc0_scratch2 f) ∗ bigSep Finset.univ fun sh : Fin 2 × Fin 2 => atPos ER (wCell c sh.1 sh.2) 0 ∅ 0)
      ⊢ iprop((freeW (F := F) c 0 0 ∗ freeW (F := F) c 0 1) ∗ (freeW (F := F) c 1 0 ∗ freeW (F := F) c 1 1)) := by
  rw [two_two]
  unfold freeW
  iintro ⟨#HR, ⟨%f, Hf⟩, ⟨⟨Ha, Hb⟩, ⟨Hc, Hd⟩⟩⟩
  ihave Hf := (show whole c cc0_scratch2 f ⊢ iprop((bPts c 0 0 f ∗ bPts c 0 1 f) ∗ (bPts c 1 0 f ∗ bPts c 1 1 f)) from Entails.of_eq (bufs_four c f)) $$ Hf
  icases Hf with ⟨⟨Fa, Fb⟩, ⟨Fc, Fd⟩⟩
  ihave #Ra := (reached_at m ρ K (c, cW 0 0)) $$ HR
  ihave #Rb := (reached_at m ρ K (c, cW 0 1)) $$ HR
  ihave #Rc := (reached_at m ρ K (c, cW 1 0)) $$ HR
  ihave #Rd := (reached_at m ρ K (c, cW 1 1)) $$ HR
  isplitl [Ha Fa Hb Fb]
  · isplitl [Ha Fa]
    · isplitl [Fa]; · iexists f; iexact Fa
      isplitl [Ha]; · iexact Ha
      iexact Ra
    isplitl [Fb]; · iexists f; iexact Fb
    isplitl [Hb]; · iexact Hb
    iexact Rb
  isplitl [Hc Fc]
  · isplitl [Fc]; · iexists f; iexact Fc
    isplitl [Hc]; · iexact Hc
    iexact Rc
  isplitl [Fd]; · iexists f; iexact Fd
  isplitl [Hd]; · iexact Hd
  iexact Rd

/-- The last two chunks landed are the buffers whole, their cells at the last round. -/
theorem back_last (c : Dev nD) :
    iprop((backW m ρ c 6 0 ∗ backW m ρ c 6 1) ∗ (backW m ρ c 7 0 ∗ backW m ρ c 7 1))
      ⊢ iprop((∃ f, whole c cc0_scratch2 f) ∗ bigSep Finset.univ fun sh : Fin 2 × Fin 2 => atPos ER (wCell c sh.1 sh.2) 4 ∅ 0) := by
  rw [two_two]
  unfold backW
  iintro ⟨⟨⟨Fa, Ha, -⟩, ⟨Fb, Hb, -⟩⟩, ⟨⟨Fc, Hc, -⟩, ⟨Fd, Hd, -⟩⟩⟩
  isplitl [Fa Fb Fc Fd]
  · iapply (bufs_join c (gAt m ρ c 6) (gAt m ρ c 7))
    isplitl [Fa Fb]
    · isplitl [Fa]; · iexact Fa
      iexact Fb
    isplitl [Fc]; · iexact Fc
    iexact Fd
  isplitl [Ha Hb]
  · isplitl [Ha]; · iexact Ha
    iexact Hb
  isplitl [Hc]; · iexact Hc
  iexact Hd

/-! ## The copies of the narrowed block -/

/-- After the sends: the device's own rows and slot, and the copies under way. -/
theorem sent_split (c : Dev nD) :
    bigSep Finset.univ (sent m ρ c) = iprop((qPts c c (xqAt m ρ c) ∗ ∃ f, slotPts c c f)
      ∗ bigSep (Finset.univ.erase c) fun j : Fin 32 => (cred (tallyAt (sendCell c j) () N) : sProp 𝕄)) := by
  rw [bigSep_univ_split (I := Fin 32) c]
  congr 1
  · exact if_pos rfl
  · exact bigSep_congr fun j hj => if_neg (Finset.mem_erase.mp hj).1

theorem leaving_join (c : Dev nD) :
    bigSep Finset.univ (leaving m ρ c) = iprop(qPts c c (xqAt m ρ c)
      ∗ bigSep (Finset.univ.erase c) fun j : Fin 32 => (cred (tallyAt (sendCell c j) () N) : sProp 𝕄)) := by
  rw [bigSep_univ_split (I := Fin 32) c]
  congr 1
  · exact if_pos rfl
  · exact bigSep_congr fun j hj => if_neg (Finset.mem_erase.mp hj).1

/-- The credit for the copies that come in; for its own rows the device waits for nothing. -/
def recvCreds (c : Dev nD) : sProp 𝕄 := bigSep (Finset.univ.erase c) fun j : Fin 32 => cred (tallyAt (recvCell c j) () N)

theorem coming_join (c : Dev nD) : bigSep Finset.univ (coming m ρ c) = iprop(slotPts c c (rowsAt m ρ c) ∗ recvCreds (F := F) c) := by
  rw [bigSep_univ_split (I := Fin 32) c]
  congr 1
  · exact if_pos rfl
  · exact bigSep_congr fun j hj => if_neg (Finset.mem_erase.mp hj).1

/-! ## The cells -/

/-- The positions of a device's cells, by kind. -/
theorem cells_split (Φ : CI → sProp 𝕄) :
    bigSep Finset.univ Φ = iprop(Φ cBar ∗ (bigSep Finset.univ fun j : Fin 32 => Φ (cSend j)) ∗ (bigSep Finset.univ fun j : Fin 32 => Φ (cRecv j))
      ∗ bigSep Finset.univ fun sh : Fin 2 × Fin 2 => Φ (cW sh.1 sh.2)) := by
  rw [bigSep_univ_sum, bigSep_univ_sum, bigSep_univ_sum, bigSep_univ_of_subsingleton (I := Unit) ()]
  rfl

/-- What lasts is there for every member. -/
theorem with_each {I : Type} [Fintype I] [DecidableEq I] (R : sProp 𝕄) [BI.Persistent R] (Φ Ψ : I → sProp 𝕄) (h : ∀ i, iprop(R ∗ Φ i) ⊢ Ψ i) :
    iprop(R ∗ bigSep Finset.univ Φ) ⊢ bigSep Finset.univ Ψ := by
  have hR : R ⊢ bigSep Finset.univ fun _ : I => R := BI.bigSep_of_persistent _ _
  refine (sep_mono_left hR).trans ?_
  rw [← bigSep_sep']
  exact bigSep_mono fun i _ => h i

/-- All of a device's cells close: their counters stand at zero. -/
theorem close_all (c : Dev nD) :
    iprop(records m ρ K ∗ bigSep Finset.univ fun k : CI => atPos ER (kcell (c, k)) (lastOf c k) ∅ 0)
      ⊢ iprop(|={(Set.univ : Set ℕ)}=> bigSep Finset.univ fun k : CI => semVal (kcell (c, k)) 0) := by
  refine (with_each (records m ρ K) (fun k : CI => atPos ER (kcell (c, k)) (lastOf c k) ∅ 0)
    (fun k : CI => iprop(|={(Set.univ : Set ℕ)}=> semVal (kcell (c, k)) 0)) fun k => ?_).trans (bigSep_fupd _ _)
  iintro ⟨#HR, Ha⟩
  iapply (Rounds.cell_close ER (Rd m ρ) (Set.mem_univ (K (c, k))) (fun h => h) (R := lastOf c k) (duties_later m ρ c k))
  isplitr
  · iapply (inv_at m ρ K (c, k))
    iexact HR
  iexact Ha

end Cert.KernelIdeal.AG

end
-- ==== Proof.KernelIdeal.Parts.lean ====
/-
Each part of the printed body, at the launch's buffers, as a sequence of steps; and the body as the
loops of `prog`.
-/
module

public import proofs.«01_k».proof.Proof.KernelIdeal.Steps

@[expose] public section

set_option synthInstance.maxSize 4096

noncomputable section

namespace Cert.KernelIdeal.AG

open Idealize.ShloMosaic Idealize.SL.Sem
open Cert.KernelIdeal.Gen

variable {F : FTy → Type} [FloatOps F]

/-- Two sequences agree when their heads and their rests do. -/
theorem bind_ext {α β : Type} {p q : P F α} {k k' : α → P F β} (h : p = q) (hk : ∀ a, k a = k' a) :
    (p >>= k) = (q >>= k') := by
  subst h; rw [funext hk]

/-- A conditional step whose two branches both run on to `r` is the step followed by `r`. -/
theorem dite_rest {c : Prop} [Decidable c] {β : Type} (p : c → P F PUnit) (r : P F β) :
    (if h : c then p h >>= fun _ => r else r)
      = ((if h : c then p h >>= fun _ => pure ⟨⟩ else pure ⟨⟩) : P F PUnit) >>= fun _ => r := by
  split
  · simp only [bind_assoc, pure_bind]
  · simp only [pure_bind]

/-- A send that runs on to `r`. -/
theorem send_rest {β : Type} {d : Dev nD} {j : Fin 32} {r r' : P F β} (h : r' = r) :
    (sendStep d j >>= fun _ => r') = if _h : onW (neW (meW d) j) = 1#1 then
      Prog.lift (.enqueueDma (qPiece j)
        (.remote (Dev.tc (⟨j.val, j.isLt⟩ : Dev nD)) (slotAt (k0_off2 d) (off2_inb d)) (.dma (sendS j)))
        (.dma (semAt cc0_scratch4 (k0_off1 d) (off1_inb d)))
        (hqM.wordExact_slice rfl _ (wordsQ j)) ((hrM.wordExact_slice rfl _ (off2_words d)).reshape _ _)
        ⟨⟨rfl, Or.inl rfl⟩, trivial⟩) >>= fun _ => r
      else r := by
  subst h; exact (dite_rest _ _).symm

/-- A receive wait that runs on to `r`. -/
theorem recv_rest {β : Type} {v : BitVec 32} {j : Fin 32} {r r' : P F β} (h : r' = r) :
    (recvStep v j >>= fun _ => r') = if _h : onW (neW v j) = 1#1 then
      Prog.lift (.waitDma2 (recvS j) (qPiece 0) (slot j) (hqM.wordExact_slice rfl _ (wordsQ 0))
        ((hrM.wordExact_slice rfl _ (wordsR j)).reshape _ _)) >>= fun _ => r
      else r := by
  subst h; exact (dite_rest _ _).symm

/-- A send wait that runs on to `r`. -/
theorem sendWait_rest {β : Type} {d : Dev nD} {j : Fin 32} {r r' : P F β} (h : r' = r) :
    (sendWait d j >>= fun _ => r') = if _h : onW (neW (meW d) j) = 1#1 then
      Prog.lift (.waitDma2 (sendS j) (slotAt (k0_off2 d) (off2_inb d)) (qPiece j)
        ((hrM.wordExact_slice rfl _ (off2_words d)).reshape _ _) (hqM.wordExact_slice rfl _ (wordsQ j))) >>= fun _ => r
      else r := by
  subst h; exact (dite_rest _ _).symm

set_option maxRecDepth 65536 in
/-- Part 1 reads the device's index and signals devices 0 to 6. -/
theorem part1_eq  :
    k0_part1 (F := F) xM (Memref.isWhole_whole _) wM (Memref.isWhole_whole _) sxM (Memref.isWhole_whole _)
      swM (Memref.isWhole_whole _) oM (Memref.isWhole_whole _) qM hqM rM hrM bM (Memref.isWhole_whole _)
      cc0_scratch3 cc0_scratch4 cc0_scratch5  = (do
      let d ← Prog.lift .deviceId
      forEach [0, 1, 2, 3, 4, 5, 6] sigStep
      pure ⟨d, meW d, SemArray.scalar (sig.barrier 0 rfl), Scalar.muli 7#32 1#32⟩) := by
  rw [k0_part1_eq_skeleton]
  simp only [forEach_cons, forEach_nil, bind_assoc, pure_bind]
  rfl

set_option maxRecDepth 65536 in
/-- Part 2 signals devices 7 to 15. -/
theorem part2_eq (v18 : BitVec 32) :
    k0_part2 (F := F) xM (Memref.isWhole_whole _) wM (Memref.isWhole_whole _) sxM (Memref.isWhole_whole _)
      swM (Memref.isWhole_whole _) oM (Memref.isWhole_whole _) qM hqM rM hrM bM (Memref.isWhole_whole _)
      cc0_scratch3 cc0_scratch4 cc0_scratch5 (SemArray.scalar (sig.barrier 0 rfl)) v18 = (do
      forEach [7, 8, 9, 10, 11, 12, 13, 14, 15] sigStep
      pure ⟨⟩) := by
  rw [k0_part2_eq_skeleton]
  simp only [forEach_cons, forEach_nil, bind_assoc, pure_bind]
  rfl

set_option maxRecDepth 65536 in
/-- Part 3 signals devices 16 to 23. -/
theorem part3_eq  :
    k0_part3 (F := F) xM (Memref.isWhole_whole _) wM (Memref.isWhole_whole _) sxM (Memref.isWhole_whole _)
      swM (Memref.isWhole_whole _) oM (Memref.isWhole_whole _) qM hqM rM hrM bM (Memref.isWhole_whole _)
      cc0_scratch3 cc0_scratch4 cc0_scratch5 (SemArray.scalar (sig.barrier 0 rfl)) = (do
      forEach [16, 17, 18, 19, 20, 21, 22, 23] sigStep
      pure ⟨Scalar.muli 24#32 1#32, 0#32⟩) := by
  rw [k0_part3_eq_skeleton]
  simp only [forEach_cons, forEach_nil, bind_assoc, pure_bind]
  rfl

set_option maxRecDepth 65536 in
/-- Part 4 signals devices 24 to 31, waits for all 32 signals and loads the first factor. -/
theorem part4_eq (v52 c : BitVec 32) :
    k0_part4 (F := F) xM (Memref.isWhole_whole _) wM (Memref.isWhole_whole _) sxM (Memref.isWhole_whole _)
      swM (Memref.isWhole_whole _) oM (Memref.isWhole_whole _) qM hqM rM hrM bM (Memref.isWhole_whole _)
      cc0_scratch3 cc0_scratch4 cc0_scratch5 (SemArray.scalar (sig.barrier 0 rfl)) v52 c = (do
      forEach [24, 25, 26, 27, 28, 29, 30, 31] sigStep
      barWait
      let x ← loadX
      pure (k0_pay1 x)) := by
  rw [k0_part4_eq_skeleton]
  simp only [forEach_cons, forEach_nil, bind_assoc, pure_bind]
  rfl

set_option maxRecDepth 65536 in
/-- Part 5 stores the quantised block and sends pieces 0 to 8. -/
theorem part5_eq (d : Dev nD) (v : FVec F S4096x128 .fp8e4m3) :
    k0_part5 (F := F) xM (Memref.isWhole_whole _) wM (Memref.isWhole_whole _) sxM (Memref.isWhole_whole _)
      swM (Memref.isWhole_whole _) oM (Memref.isWhole_whole _) qM hqM rM hrM bM (Memref.isWhole_whole _)
      cc0_scratch3 cc0_scratch4 cc0_scratch5 d (meW d) v = (do
      let _ ← loadQ
      storeQ (k0_pay2 v)
      forEach [0, 1, 2, 3, 4, 5, 6, 7, 8] (sendStep d)
      pure 9#32) := by
  rw [k0_part5_eq_skeleton]
  simp only [forEach_cons, forEach_nil, bind_assoc, pure_bind]
  unfold k0_part5_skel
  symm
  iterate 2 refine bind_ext rfl fun _ => ?_
  iterate 9 refine send_rest ?_
  rfl

set_option maxRecDepth 65536 in
/-- Part 6 sends pieces 9 to 18. -/
theorem part6_eq (d : Dev nD) :
    k0_part6 (F := F) xM (Memref.isWhole_whole _) wM (Memref.isWhole_whole _) sxM (Memref.isWhole_whole _)
      swM (Memref.isWhole_whole _) oM (Memref.isWhole_whole _) qM hqM rM hrM bM (Memref.isWhole_whole _)
      cc0_scratch3 cc0_scratch4 cc0_scratch5 d (meW d) 9#32 = (do
      forEach [9, 10, 11, 12, 13, 14, 15, 16, 17, 18] (sendStep d)
      pure 19#32) := by
  rw [k0_part6_eq_skeleton]
  simp only [forEach_cons, forEach_nil, bind_assoc, pure_bind]
  unfold k0_part6_skel
  symm
  iterate 10 refine send_rest ?_
  rfl

set_option maxRecDepth 65536 in
/-- Part 7 sends pieces 19 to 28. -/
theorem part7_eq (d : Dev nD) :
    k0_part7 (F := F) xM (Memref.isWhole_whole _) wM (Memref.isWhole_whole _) sxM (Memref.isWhole_whole _)
      swM (Memref.isWhole_whole _) oM (Memref.isWhole_whole _) qM hqM rM hrM bM (Memref.isWhole_whole _)
      cc0_scratch3 cc0_scratch4 cc0_scratch5 d (meW d) 19#32 = (do
      forEach [19, 20, 21, 22, 23, 24, 25, 26, 27, 28] (sendStep d)
      pure 29#32) := by
  rw [k0_part7_eq_skeleton]
  simp only [forEach_cons, forEach_nil, bind_assoc, pure_bind]
  unfold k0_part7_skel
  symm
  iterate 10 refine send_rest ?_
  rfl

set_option maxRecDepth 65536 in
/-- Part 8 sends pieces 29 to 31, copies the device's own piece into its slot and starts fetching rows of the second factor. -/
theorem part8_eq (d : Dev nD) :
    k0_part8 (F := F) xM (Memref.isWhole_whole _) wM (Memref.isWhole_whole _) sxM (Memref.isWhole_whole _)
      swM (Memref.isWhole_whole _) oM (Memref.isWhole_whole _) qM hqM rM hrM bM (Memref.isWhole_whole _)
      cc0_scratch3 cc0_scratch4 cc0_scratch5 d (meW d) 29#32 = (do
      forEach [29, 30, 31] (sendStep d)
      let r ← loadOwn d
      let _ ← loadOwnSlot d
      storeOwn d (k0_pay3 r)
      wStart 0 0
      wStart 0 1
      pure ⟨⟩) := by
  rw [k0_part8_eq_skeleton]
  simp only [forEach_cons, forEach_nil, bind_assoc, pure_bind]
  unfold k0_part8_skel
  symm
  iterate 3 refine send_rest ?_
  rfl

set_option maxRecDepth 65536 in
/-- Part 9 starts fetching rows of the second factor, sets the result to zero and waits for the pieces of devices 0 to 3. -/
theorem part9_eq (d : Dev nD) :
    k0_part9 (F := F) xM (Memref.isWhole_whole _) wM (Memref.isWhole_whole _) sxM (Memref.isWhole_whole _)
      swM (Memref.isWhole_whole _) oM (Memref.isWhole_whole _) qM hqM rM hrM bM (Memref.isWhole_whole _)
      cc0_scratch3 cc0_scratch4 cc0_scratch5 (meW d) = (do
      wStart 1 0
      wStart 1 1
      let _ ← loadO
      storeO (k0_pay4 (F := F))
      forEach [0, 1, 2, 3] (recvStep (meW d))
      pure ⟨⟩) := by
  rw [k0_part9_eq_skeleton]
  simp only [forEach_cons, forEach_nil, bind_assoc, pure_bind]
  unfold k0_part9_skel
  symm
  iterate 4 refine bind_ext rfl fun _ => ?_
  iterate 4 refine recv_rest ?_
  rfl

set_option maxRecDepth 65536 in
/-- Part 10 waits for rows of the second factor and adds the product of a chunk to the result. -/
theorem part10_eq  :
    k0_part10 (F := F) xM (Memref.isWhole_whole _) wM (Memref.isWhole_whole _) sxM (Memref.isWhole_whole _)
      swM (Memref.isWhole_whole _) oM (Memref.isWhole_whole _) qM hqM rM hrM bM (Memref.isWhole_whole _)
      cc0_scratch3 cc0_scratch4 cc0_scratch5  = (do
      wWait 0 0
      wWait 0 1
      let a0 ← loadSlot 0
      let a1 ← loadSlot 1
      let a2 ← loadSlot 2
      let a3 ← loadSlot 3
      let w ← loadW 0
      let o ← loadO
      let _ ← loadO
      storeO (k0_pay5 a0 a1 a2 a3 w o)
      pure ⟨⟩) := by
  rw [k0_part10_eq_skeleton]
  rfl

set_option maxRecDepth 65536 in
/-- Part 11 starts fetching rows of the second factor, waits for the pieces of devices 4 to 7 and waits for rows of the second factor. -/
theorem part11_eq (d : Dev nD) :
    k0_part11 (F := F) xM (Memref.isWhole_whole _) wM (Memref.isWhole_whole _) sxM (Memref.isWhole_whole _)
      swM (Memref.isWhole_whole _) oM (Memref.isWhole_whole _) qM hqM rM hrM bM (Memref.isWhole_whole _)
      cc0_scratch3 cc0_scratch4 cc0_scratch5 (meW d) = (do
      wStart 2 0
      wStart 2 1
      forEach [4, 5, 6, 7] (recvStep (meW d))
      wWait 1 0
      pure ⟨⟩) := by
  rw [k0_part11_eq_skeleton]
  simp only [forEach_cons, forEach_nil, bind_assoc, pure_bind]
  unfold k0_part11_skel
  symm
  iterate 2 refine bind_ext rfl fun _ => ?_
  iterate 4 refine recv_rest ?_
  rfl

set_option maxRecDepth 65536 in
/-- Part 12 waits for rows of the second factor and adds the product of a chunk to the result. -/
theorem part12_eq  :
    k0_part12 (F := F) xM (Memref.isWhole_whole _) wM (Memref.isWhole_whole _) sxM (Memref.isWhole_whole _)
      swM (Memref.isWhole_whole _) oM (Memref.isWhole_whole _) qM hqM rM hrM bM (Memref.isWhole_whole _)
      cc0_scratch3 cc0_scratch4 cc0_scratch5  = (do
      wWait 1 1
      let a4 ← loadSlot 4
      let a5 ← loadSlot 5
      let a6 ← loadSlot 6
      let a7 ← loadSlot 7
      let w ← loadW 1
      let o ← loadO
      let _ ← loadO
      storeO (k0_pay5 a4 a5 a6 a7 w o)
      pure ⟨⟩) := by
  rw [k0_part12_eq_skeleton]
  rfl

set_option maxRecDepth 65536 in
/-- Part 13 starts fetching rows of the second factor, waits for the pieces of devices 8 to 11 and waits for rows of the second factor. -/
theorem part13_eq (d : Dev nD) :
    k0_part13 (F := F) xM (Memref.isWhole_whole _) wM (Memref.isWhole_whole _) sxM (Memref.isWhole_whole _)
      swM (Memref.isWhole_whole _) oM (Memref.isWhole_whole _) qM hqM rM hrM bM (Memref.isWhole_whole _)
      cc0_scratch3 cc0_scratch4 cc0_scratch5 (meW d) = (do
      wStart 3 0
      wStart 3 1
      forEach [8, 9, 10, 11] (recvStep (meW d))
      wWait 2 0
      pure ⟨⟩) := by
  rw [k0_part13_eq_skeleton]
  simp only [forEach_cons, forEach_nil, bind_assoc, pure_bind]
  unfold k0_part13_skel
  symm
  iterate 2 refine bind_ext rfl fun _ => ?_
  iterate 4 refine recv_rest ?_
  rfl

set_option maxRecDepth 65536 in
/-- Part 14 waits for rows of the second factor, adds the product of a chunk to the result and starts fetching rows of the second factor. -/
theorem part14_eq  :
    k0_part14 (F := F) xM (Memref.isWhole_whole _) wM (Memref.isWhole_whole _) sxM (Memref.isWhole_whole _)
      swM (Memref.isWhole_whole _) oM (Memref.isWhole_whole _) qM hqM rM hrM bM (Memref.isWhole_whole _)
      cc0_scratch3 cc0_scratch4 cc0_scratch5  = (do
      wWait 2 1
      let a8 ← loadSlot 8
      let a9 ← loadSlot 9
      let a10 ← loadSlot 10
      let a11 ← loadSlot 11
      let w ← loadW 0
      let o ← loadO
      let _ ← loadO
      storeO (k0_pay5 a8 a9 a10 a11 w o)
      wStart 4 0
      pure ⟨⟩) := by
  rw [k0_part14_eq_skeleton]
  rfl

set_option maxRecDepth 65536 in
/-- Part 15 starts fetching rows of the second factor, waits for the pieces of devices 12 to 15 and waits for rows of the second factor. -/
theorem part15_eq (d : Dev nD) :
    k0_part15 (F := F) xM (Memref.isWhole_whole _) wM (Memref.isWhole_whole _) sxM (Memref.isWhole_whole _)
      swM (Memref.isWhole_whole _) oM (Memref.isWhole_whole _) qM hqM rM hrM bM (Memref.isWhole_whole _)
      cc0_scratch3 cc0_scratch4 cc0_scratch5 (meW d) = (do
      wStart 4 1
      forEach [12, 13, 14, 15] (recvStep (meW d))
      wWait 3 0
      wWait 3 1
      pure ⟨⟩) := by
  rw [k0_part15_eq_skeleton]
  simp only [forEach_cons, forEach_nil, bind_assoc, pure_bind]
  unfold k0_part15_skel
  symm
  iterate 1 refine bind_ext rfl fun _ => ?_
  iterate 4 refine recv_rest ?_
  rfl

set_option maxRecDepth 65536 in
/-- Part 16 adds the product of a chunk to the result and starts fetching rows of the second factor. -/
theorem part16_eq  :
    k0_part16 (F := F) xM (Memref.isWhole_whole _) wM (Memref.isWhole_whole _) sxM (Memref.isWhole_whole _)
      swM (Memref.isWhole_whole _) oM (Memref.isWhole_whole _) qM hqM rM hrM bM (Memref.isWhole_whole _)
      cc0_scratch3 cc0_scratch4 cc0_scratch5  = (do
      let a12 ← loadSlot 12
      let a13 ← loadSlot 13
      let a14 ← loadSlot 14
      let a15 ← loadSlot 15
      let w ← loadW 1
      let o ← loadO
      let _ ← loadO
      storeO (k0_pay5 a12 a13 a14 a15 w o)
      wStart 5 0
      pure ⟨⟩) := by
  rw [k0_part16_eq_skeleton]
  rfl

set_option maxRecDepth 65536 in
/-- Part 17 starts fetching rows of the second factor, waits for the pieces of devices 16 to 19, waits for rows of the second factor and loads received pieces. -/
theorem part17_eq (d : Dev nD) :
    k0_part17 (F := F) xM (Memref.isWhole_whole _) wM (Memref.isWhole_whole _) sxM (Memref.isWhole_whole _)
      swM (Memref.isWhole_whole _) oM (Memref.isWhole_whole _) qM hqM rM hrM bM (Memref.isWhole_whole _)
      cc0_scratch3 cc0_scratch4 cc0_scratch5 (meW d) = (do
      wStart 5 1
      forEach [16, 17, 18, 19] (recvStep (meW d))
      wWait 4 0
      wWait 4 1
      let a ← loadSlot 16
      pure (k0_pay9 a)) := by
  rw [k0_part17_eq_skeleton]
  simp only [forEach_cons, forEach_nil, bind_assoc, pure_bind]
  unfold k0_part17_skel
  symm
  iterate 1 refine bind_ext rfl fun _ => ?_
  iterate 4 refine recv_rest ?_
  rfl

set_option maxRecDepth 65536 in
/-- Part 18 adds the product of a chunk to the result and starts fetching rows of the second factor. -/
theorem part18_eq (d : Dev nD) (v : FVec F S128x128 .fp8e4m3) :
    k0_part18 (F := F) xM (Memref.isWhole_whole _) wM (Memref.isWhole_whole _) sxM (Memref.isWhole_whole _)
      swM (Memref.isWhole_whole _) oM (Memref.isWhole_whole _) qM hqM rM hrM bM (Memref.isWhole_whole _)
      cc0_scratch3 cc0_scratch4 cc0_scratch5 (meW d) v = (do
      let a17 ← loadSlot 17
      let a18 ← loadSlot 18
      let a19 ← loadSlot 19
      let w ← loadW 0
      let o ← loadO
      let _ ← loadO
      storeO (k0_pay10 v a17 a18 a19 w o)
      wStart 6 0
      wStart 6 1
      pure (neW (meW d) 20)) := by
  rw [k0_part18_eq_skeleton]
  rfl

set_option maxRecDepth 65536 in
/-- Part 19 waits for the pieces of devices 20 to 23, waits for rows of the second factor and loads received pieces. -/
theorem part19_eq (d : Dev nD) :
    k0_part19 (F := F) xM (Memref.isWhole_whole _) wM (Memref.isWhole_whole _) sxM (Memref.isWhole_whole _)
      swM (Memref.isWhole_whole _) oM (Memref.isWhole_whole _) qM hqM rM hrM bM (Memref.isWhole_whole _)
      cc0_scratch3 cc0_scratch4 cc0_scratch5 (meW d) (neW (meW d) 20) = (do
      forEach [20, 21, 22, 23] (recvStep (meW d))
      wWait 5 0
      wWait 5 1
      let a ← loadSlot 20
      let b ← loadSlot 21
      pure ⟨k0_pay11 a, k0_pay12 b⟩) := by
  rw [k0_part19_eq_skeleton]
  simp only [forEach_cons, forEach_nil, bind_assoc, pure_bind]
  unfold k0_part19_skel
  symm
  iterate 4 refine recv_rest ?_
  rfl

set_option maxRecDepth 65536 in
/-- Part 20 adds the product of a chunk to the result, starts fetching rows of the second factor and waits for one more piece. -/
theorem part20_eq (d : Dev nD) (u v : FVec F S128x128 .fp8e4m3) :
    k0_part20 (F := F) xM (Memref.isWhole_whole _) wM (Memref.isWhole_whole _) sxM (Memref.isWhole_whole _)
      swM (Memref.isWhole_whole _) oM (Memref.isWhole_whole _) qM hqM rM hrM bM (Memref.isWhole_whole _)
      cc0_scratch3 cc0_scratch4 cc0_scratch5 (meW d) u v = (do
      let a22 ← loadSlot 22
      let a23 ← loadSlot 23
      let w ← loadW 1
      let o ← loadO
      let _ ← loadO
      storeO (k0_pay13 u v a22 a23 w o)
      wStart 7 0
      wStart 7 1
      recvStep (meW d) 24
      pure (neW (meW d) 25)) := by
  rw [k0_part20_eq_skeleton]
  unfold k0_part20_skel
  symm
  iterate 8 refine bind_ext rfl fun _ => ?_
  iterate 1 refine recv_rest ?_
  rfl

set_option maxRecDepth 65536 in
/-- Part 21 waits for the pieces of devices 25 to 27, waits for rows of the second factor and loads received pieces. -/
theorem part21_eq (d : Dev nD) :
    k0_part21 (F := F) xM (Memref.isWhole_whole _) wM (Memref.isWhole_whole _) sxM (Memref.isWhole_whole _)
      swM (Memref.isWhole_whole _) oM (Memref.isWhole_whole _) qM hqM rM hrM bM (Memref.isWhole_whole _)
      cc0_scratch3 cc0_scratch4 cc0_scratch5 (meW d) (neW (meW d) 25) = (do
      forEach [25, 26, 27] (recvStep (meW d))
      wWait 6 0
      wWait 6 1
      let a24 ← loadSlot 24
      let a25 ← loadSlot 25
      let a26 ← loadSlot 26
      let a27 ← loadSlot 27
      pure ⟨k0_pay14 a24, k0_pay15 a25, k0_pay16 a26, a27⟩) := by
  rw [k0_part21_eq_skeleton]
  simp only [forEach_cons, forEach_nil, bind_assoc, pure_bind]
  unfold k0_part21_skel
  symm
  iterate 3 refine recv_rest ?_
  rfl

set_option maxRecDepth 65536 in
/-- Part 22 adds the product of a chunk to the result, waits for the pieces of devices 28 to 31 and waits for rows of the second factor. -/
theorem part22_eq (d : Dev nD) (t u v : FVec F S128x128 .fp8e4m3) (b : Vec F S1x128x128 .fp8e4m3) :
    k0_part22 (F := F) xM (Memref.isWhole_whole _) wM (Memref.isWhole_whole _) sxM (Memref.isWhole_whole _)
      swM (Memref.isWhole_whole _) oM (Memref.isWhole_whole _) qM hqM rM hrM bM (Memref.isWhole_whole _)
      cc0_scratch3 cc0_scratch4 cc0_scratch5 (meW d) t u v b = (do
      let w ← loadW 0
      let o ← loadO
      let _ ← loadO
      storeO (k0_pay17 t u v b w o)
      forEach [28, 29, 30, 31] (recvStep (meW d))
      wWait 7 0
      pure ⟨⟩) := by
  rw [k0_part22_eq_skeleton]
  simp only [forEach_cons, forEach_nil, bind_assoc, pure_bind]
  unfold k0_part22_skel
  symm
  iterate 4 refine bind_ext rfl fun _ => ?_
  iterate 4 refine recv_rest ?_
  rfl

set_option maxRecDepth 65536 in
/-- Part 23 waits for rows of the second factor, adds the product of a chunk to the result and loads the two scales. -/
theorem part23_eq  :
    k0_part23 (F := F) xM (Memref.isWhole_whole _) wM (Memref.isWhole_whole _) sxM (Memref.isWhole_whole _)
      swM (Memref.isWhole_whole _) oM (Memref.isWhole_whole _) qM hqM rM hrM bM (Memref.isWhole_whole _)
      cc0_scratch3 cc0_scratch4 cc0_scratch5  = (do
      wWait 7 1
      let a28 ← loadSlot 28
      let a29 ← loadSlot 29
      let a30 ← loadSlot 30
      let a31 ← loadSlot 31
      let w ← loadW 1
      let o ← loadO
      let _ ← loadO
      storeO (k0_pay5 a28 a29 a30 a31 w o)
      let a ← loadSx
      let b ← loadSw
      let o ← loadO
      pure ⟨k0_pay19 a b o, k0_pay20 (F := F)⟩) := by
  rw [k0_part23_eq_skeleton]
  rfl

set_option maxRecDepth 65536 in
/-- Part 24 stores the scaled, rectified result and waits until pieces 0 to 8 have left. -/
theorem part24_eq (d : Dev nD) (u v : FVec F S128x8192 .f32) :
    k0_part24 (F := F) xM (Memref.isWhole_whole _) wM (Memref.isWhole_whole _) sxM (Memref.isWhole_whole _)
      swM (Memref.isWhole_whole _) oM (Memref.isWhole_whole _) qM hqM rM hrM bM (Memref.isWhole_whole _)
      cc0_scratch3 cc0_scratch4 cc0_scratch5 d (meW d) u v = (do
      let _ ← loadO
      storeO (k0_pay21 u v)
      forEach [0, 1, 2, 3, 4, 5, 6, 7, 8] (sendWait d)
      pure 9#32) := by
  rw [k0_part24_eq_skeleton]
  simp only [forEach_cons, forEach_nil, bind_assoc, pure_bind]
  unfold k0_part24_skel
  symm
  iterate 2 refine bind_ext rfl fun _ => ?_
  iterate 9 refine sendWait_rest ?_
  rfl

set_option maxRecDepth 65536 in
/-- Part 25 waits until pieces 9 to 18 have left. -/
theorem part25_eq (d : Dev nD) :
    k0_part25 (F := F) xM (Memref.isWhole_whole _) wM (Memref.isWhole_whole _) sxM (Memref.isWhole_whole _)
      swM (Memref.isWhole_whole _) oM (Memref.isWhole_whole _) qM hqM rM hrM bM (Memref.isWhole_whole _)
      cc0_scratch3 cc0_scratch4 cc0_scratch5 d (meW d) 9#32 = (do
      forEach [9, 10, 11, 12, 13, 14, 15, 16, 17, 18] (sendWait d)
      pure 19#32) := by
  rw [k0_part25_eq_skeleton]
  simp only [forEach_cons, forEach_nil, bind_assoc, pure_bind]
  unfold k0_part25_skel
  symm
  iterate 10 refine sendWait_rest ?_
  rfl

set_option maxRecDepth 65536 in
/-- Part 26 waits until pieces 19 to 28 have left. -/
theorem part26_eq (d : Dev nD) :
    k0_part26 (F := F) xM (Memref.isWhole_whole _) wM (Memref.isWhole_whole _) sxM (Memref.isWhole_whole _)
      swM (Memref.isWhole_whole _) oM (Memref.isWhole_whole _) qM hqM rM hrM bM (Memref.isWhole_whole _)
      cc0_scratch3 cc0_scratch4 cc0_scratch5 d (meW d) 19#32 = (do
      forEach [19, 20, 21, 22, 23, 24, 25, 26, 27, 28] (sendWait d)
      pure 29#32) := by
  rw [k0_part26_eq_skeleton]
  simp only [forEach_cons, forEach_nil, bind_assoc, pure_bind]
  unfold k0_part26_skel
  symm
  iterate 10 refine sendWait_rest ?_
  rfl

set_option maxRecDepth 65536 in
/-- The body is the loops of `prog` at the device it runs on. -/
theorem body_eq :
    cc0_body (F := F) xM (Memref.isWhole_whole _) wM (Memref.isWhole_whole _) sxM (Memref.isWhole_whole _)
      swM (Memref.isWhole_whole _) oM (Memref.isWhole_whole _) qM hqM rM hrM bM (Memref.isWhole_whole _)
      cc0_scratch3 cc0_scratch4 cc0_scratch5 = Prog.lift .deviceId >>= prog := by
  have h (j : Fin 32) (d : Dev nD) (r : P F PUnit) := sendWait_rest (d := d) (j := j) (r := r) (r' := r) rfl
  rw [cc0_body_eq_skeleton, cc0_body_skel, funext (prog.eq_1 (F := F))]
  simp only [all32_eq, chunkThen, chunk, compute, wStart2, epilogue, forEach_cons, forEach_nil, bind_assoc, pure_bind,
    part1_eq, part2_eq, part3_eq, part4_eq, part5_eq, part6_eq, part7_eq, part8_eq, part9_eq, part10_eq, part11_eq, part12_eq, part13_eq, part14_eq, part15_eq, part16_eq, part17_eq, part18_eq, part19_eq, part20_eq, part21_eq, part22_eq, part23_eq, part24_eq, part25_eq, part26_eq, h 29, h 30, h 31]
  rfl

end Cert.KernelIdeal.AG

end
-- ==== Proof.KernelIdeal.Body.lean ====
/-
The body of the kernel on a device: from what the device holds at launch, to the result in the output block and every
semaphore counter back at zero.
-/
module

public import proofs.«01_k».proof.Proof.KernelIdeal.Group
public import proofs.«01_k».proof.Proof.KernelIdeal.Parts

@[expose] public section

set_option synthInstance.maxSize 4096

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-- The duties a device pays: one unit to every device's barrier cell, its copies' two ends, the copies of the second
    factor. -/
def payToks (c : Dev nD) : sProp 𝕄 :=
  iprop((bigSep Finset.univ fun j : Fin 32 => dutyTok ER (barCell j) 0 c)
    ∗ (bigSep Finset.univ fun j : Fin 32 => dutyTok ER (sendCell c j) 0 0)
    ∗ (bigSep Finset.univ fun j : Fin 32 => dutyTok ER (recvCell j c) 0 0)
    ∗ bigSep Finset.univ fun kh : Fin 8 × Fin 2 => dutyTok ER (wCell c (slotOf kh.1) kh.2) (kh.1.val / 2) 0)

/-- A device's cells, all at the first round. -/
def positions (c : Dev nD) : sProp 𝕄 := bigSep Finset.univ fun k : CI => atPos ER (kcell (c, k)) 0 ∅ 0

/-- The three scratch buffers, at whatever contents. -/
def scratch (c : Dev nD) : sProp 𝕄 :=
  iprop((∃ f, whole (F := F) c cc0_scratch0 f) ∗ (∃ f, whole (F := F) c cc0_scratch1 f) ∗ ∃ f, whole (F := F) c cc0_scratch2 f)

/-- The staged operands. -/
def staged (c : Dev nD) : sProp 𝕄 :=
  iprop(whole c cc0_stg0_0 (xstg m ρ c) ∗ whole c cc0_stg1_0 (sxstg m ρ c) ∗ whole c cc0_stg2_0 (swstg m ρ c))

/-- What the body starts from. -/
def bodyIn (c : Dev nD) : sProp 𝕄 :=
  iprop(records m ρ K ∗ levAts L lv ∗ owesS c (O₀ c) ∗ (positions (F := F) c ∗ payToks (F := F) c)
    ∗ (cred (tallyAt (barCell c) () 32) ∗ recvCreds (F := F) c)
    ∗ scratch (F := F) c ∗ whole c main_arg1 (wAt m ρ c) ∗ staged m ρ c ∗ ∃ f, whole (F := F) c cc0_stg3_0 f)

/-- What the body ends with. -/
def bodyOut (c : Dev nD) : sProp 𝕄 :=
  iprop(owesS c 0 ∗ (bigSep Finset.univ fun k : CI => semVal (kcell (c, k)) 0)
    ∗ scratch (F := F) c ∗ whole c main_arg1 (wAt m ρ c) ∗ staged m ρ c ∗ whole c cc0_stg3_0 (outAt m ρ c))

/-- A slot holding known contents is a slot holding some contents. -/
theorem some_slot (c : Dev nD) (j : Fin 32) (f : (cc0_scratch1 : Ref sig .tc).ty.Contents (Elt F)) :
    slotPts c j f ⊢ (iprop(∃ f, slotPts c j f) : sProp 𝕄) := by
  iintro H
  iexists f
  iexact H

/-- What holds after an update holds after the step. -/
theorem run_fupd {α : Type} (c : Dev nD) (p : P F α) (Q : α → sProp 𝕄) :
    run c p (fun a => iprop(|={(Set.univ : Set ℕ)}=> Q a)) ⊢ run c p Q := wp_fupd _ _ _ p Q

/-- Up to the copies of the device's rows: the handshake, the narrowing, the sends. -/
theorem first_part (c : Dev nD) (Q : PUnit → sProp 𝕄) (rest : P F PUnit) :
    iprop(records m ρ K ∗ levAts L lv ∗ owesS c (O₀ c) ∗ atPos ER (barCell c) 0 ∅ 0 ∗ cred (tallyAt (barCell c) () 32)
        ∗ ((bigSep Finset.univ fun j : Fin 32 => dutyTok ER (barCell j) 0 c)
          ∗ (bigSep Finset.univ fun j : Fin 32 => dutyTok ER (sendCell c j) 0 0)
          ∗ (bigSep Finset.univ fun j : Fin 32 => dutyTok ER (recvCell j c) 0 0))
        ∗ (∃ f, whole (F := F) c cc0_scratch0 f) ∗ (∃ f, whole (F := F) c cc0_scratch1 f) ∗ whole c cc0_stg0_0 (xstg m ρ c))
      ⊢ iprop(((owesS c 0 ∗ atPos ER (barCell c) 1 ∅ 0 ∗ bigSep Finset.univ (sent m ρ c) ∗ whole c cc0_stg0_0 (xstg m ρ c)) -∗ run c rest Q)
          -∗ run c (do
            forEach all32 sigStep
            barWait
            let x ← loadX
            let _ ← loadQ
            storeQ (k0_pay2 (k0_pay1 x))
            forEach all32 (sendStep (F := F) c)
            rest) Q) := by
  iintro ⟨#HR, #Hlev, HO, Ha, Hc, ⟨Tb, Ts, Tr⟩, Hq, ⟨%f, Hs⟩, Hx⟩ Hk
  rw [run_bind]
  iapply (sig_loop m ρ K c _) $$ [HO Tb Hs]
  · isplitl [HO]
    · isplitr; · iexact HR
      iexact HO
    rw [bigSep_sep']
    isplitl [Tb]; · iexact Tb
    ihave Hs := (show whole c cc0_scratch1 f ⊢ bigSep Finset.univ fun j : Fin 32 => iprop(∃ f, slotPts (F := F) c j f) from
      (Entails.of_eq (slots_split c f)).trans (bigSep_mono fun j _ => some_slot c j f)) $$ Hs
    iexact Hs
  iintro HO
  rw [run_bind]
  iapply (bar_wait m ρ K c _) $$ [HO Ha Hc]
  · isplitr; · iexact HR
    isplitr; · iexact Hlev
    isplitl [Hc]; · iexact Hc
    isplitl [HO]; · iexact HO
    iexact Ha
  iintro ⟨HO, Ha, Hs⟩
  rw [run_bind]
  iapply (load_x c (xstg m ρ c) _) $$ Hx
  iintro Hx
  rw [run_bind]
  iapply (load_q c _) $$ Hq
  iintro %v Hq
  rw [run_bind]
  iapply (store_q c (k0_pay2 (k0_pay1 (xstg m ρ c))) _) $$ Hq
  iintro Hq
  rw [run_bind]
  iapply (send_loop m ρ K c _) $$ [HO Hq Hs Ts Tr]
  · isplitl [HO]
    · isplitr; · iexact HR
      iexact HO
    rw [bigSep_sep', bigSep_sep', bigSep_sep']
    isplitl [Hq]
    · iapply (show whole c cc0_scratch0 (xqAt m ρ c) ⊢ bigSep Finset.univ fun j : Fin 32 => qPts c j (xqAt m ρ c) from
        Entails.of_eq (rows_split c (xqAt m ρ c)))
      iexact Hq
    isplitl [Hs]; · iexact Hs
    isplitl [Ts]; · iexact Ts
    iexact Tr
  iintro ⟨HO, HS⟩
  iapply Hk
  isplitl [HO]; · iexact HO
  isplitl [Ha]; · iexact Ha
  isplitl [HS]; · iexact HS
  iexact Hx

/-- The device's own rows go to its own slot. -/
theorem own_part (c : Dev nD) (Q : PUnit → sProp 𝕄) (rest : P F PUnit) :
    iprop(bigSep Finset.univ (sent m ρ c) ∗ recvCreds (F := F) c)
      ⊢ iprop(((bigSep Finset.univ (leaving m ρ c) ∗ bigSep Finset.univ (coming m ρ c)) -∗ run c rest Q)
          -∗ run c (do
            let r ← loadOwn (F := F) c
            let _ ← loadOwnSlot c
            storeOwn c (k0_pay3 r)
            rest) Q) := by
  rw [sent_split, leaving_join, coming_join]
  iintro ⟨⟨⟨Hq, Hs⟩, Hl⟩, Hr⟩ Hk
  rw [run_bind]
  iapply (load_own m ρ c _) $$ Hq
  iintro Hq
  rw [run_bind]
  iapply (load_ownSlot c _) $$ Hs
  iintro %v Hs
  rw [run_bind]
  iapply (store_own m ρ c _) $$ Hs
  iintro Hs
  iapply Hk
  isplitl [Hq Hl]
  · isplitl [Hq]; · iexact Hq
    iexact Hl
  isplitl [Hs]; · iexact Hs
  iexact Hr

/-- The contraction, chunk by chunk, and the last step. -/
theorem chunks_part (c : Dev nD) (Q : PUnit → sProp 𝕄) (rest : P F PUnit) :
    iprop(records m ρ K ∗ owesS c 0 ∗ bigSep Finset.univ (coming m ρ c) ∗ (bigSep Finset.univ fun j : Fin 32 => atPos ER (recvCell c j) 0 ∅ 0)
        ∗ (bigSep Finset.univ fun sh : Fin 2 × Fin 2 => atPos ER (wCell c sh.1 sh.2) 0 ∅ 0)
        ∗ (bigSep Finset.univ fun kh : Fin 8 × Fin 2 => dutyTok ER (wCell c (slotOf kh.1) kh.2) (kh.1.val / 2) 0)
        ∗ (∃ f, whole (F := F) c cc0_scratch2 f) ∗ whole c main_arg1 (wAt m ρ c)
        ∗ whole c cc0_stg1_0 (sxstg m ρ c) ∗ whole c cc0_stg2_0 (swstg m ρ c) ∗ ∃ f, whole (F := F) c cc0_stg3_0 f)
      ⊢ iprop(((owesS c 0 ∗ (∃ f, whole (F := F) c cc0_scratch1 f) ∗ (bigSep Finset.univ fun j : Fin 32 => atPos ER (recvCell c j) (lastOf c (cRecv j)) ∅ 0)
        ∗ (bigSep Finset.univ fun sh : Fin 2 × Fin 2 => atPos ER (wCell c sh.1 sh.2) 4 ∅ 0)
        ∗ (∃ f, whole (F := F) c cc0_scratch2 f) ∗ whole c main_arg1 (wAt m ρ c)
        ∗ whole c cc0_stg1_0 (sxstg m ρ c) ∗ whole c cc0_stg2_0 (swstg m ρ c) ∗ whole (F := F) c cc0_stg3_0 (outAt m ρ c)) -∗ run c rest Q)
          -∗ run c (do
            wStart2 0
            wStart2 1
            let _ ← loadO
            storeO (k0_pay4 (F := F))
            forEach [0, 1, 2, 3, 4, 5] (chunkThen (meW c))
            chunk (meW c) 6
            chunk (meW c) 7
            epilogue
            rest) Q) := by
  iintro ⟨#HR, HO, Hcm, Har, Haw, Ht, Hb, Hw, Hsx, Hsw, ⟨%f, Ho⟩⟩ Hk
  ihave Hg := (Entails.of_eq (go_all m ρ c)) $$ [Hw Ht]
  · isplitl [Hw]; · iexact Hw
    iexact Ht
  icases Hg with ⟨⟨Hg0, Hg1⟩, Hg⟩
  ihave Hf := (free_first m ρ K c) $$ [Hb Haw]
  · isplitr; · iexact HR
    isplitl [Hb]; · iexact Hb
    iexact Haw
  icases Hf with ⟨Hf0, Hf1⟩
  ihave Hcm := (show iprop(bigSep Finset.univ (coming m ρ c) ∗ bigSep Finset.univ fun j : Fin 32 => atPos ER (recvCell c j) 0 ∅ 0)
      ⊢ iprop((bigSep Finset.univ fun t : Fin 6 => four (waitR m ρ c) (kk t.val)) ∗ four (waitR m ρ c) 6 ∗ four (waitR m ρ c) 7) from
    Entails.of_eq ((bigSep_sep' Finset.univ (coming m ρ c) (fun j : Fin 32 => atPos ER (recvCell c j) 0 ∅ 0)).symm.trans ((by_chunk (waitR m ρ c)).trans (chunks_last (fun k => four (waitR m ρ c) k))))) $$ [Hcm Har]
  · isplitl [Hcm]; · iexact Hcm
    iexact Har
  icases Hcm with ⟨Hcm, H6, H7⟩
  rw [run_bind]
  iapply (w_start2 m ρ K c 0 _) $$ [Hg0 Hf0]
  · isplitr; · iexact HR
    isplitl [Hg0]; · iexact Hg0
    iexact Hf0
  iintro Hi0
  rw [run_bind]
  iapply (w_start2 m ρ K c 1 _) $$ [Hg1 Hf1]
  · isplitr; · iexact HR
    isplitl [Hg1]; · iexact Hg1
    iexact Hf1
  iintro Hi1
  rw [run_bind]
  iapply (load_o c f _) $$ Ho
  iintro Ho
  rw [run_bind]
  iapply (store_o c f (accAt m ρ c 0) _) $$ Ho
  iintro Ho
  rw [run_bind]
  iapply (chunk_loop m ρ K c _) $$ [HO Hi0 Hi1 Ho Hcm Hg]
  · isplitl [HO Hi0 Hi1 Ho]
    · isplitr; · iexact HR
      isplitl [HO]; · iexact HO
      isplitl [Hi0]; · iexact Hi0
      isplitl [Hi1]; · iexact Hi1
      iexact Ho
    iapply (Entails.of_eq (bigSep_sep' Finset.univ (fun t : Fin 6 => four (waitR m ρ c) (kk t.val))
      (fun t : Fin 6 => iprop(goW m ρ c (kk (t.val + 2)) 0 ∗ goW m ρ c (kk (t.val + 2)) 1))).symm)
    isplitl [Hcm]; · iexact Hcm
    iexact Hg
  iintro ⟨⟨-, HO, Hi6, Hi7, Ho⟩, Hd⟩
  rw [run_bind]
  iapply (chunk_step m ρ K c 6 (accAt m ρ c 6) _) $$ [HO H6 Hi6 Ho]
  · isplitr; · iexact HR
    isplitl [HO]; · iexact HO
    isplitl [H6]; · iexact H6
    isplitl [Hi6]; · iexact Hi6
    iexact Ho
  iintro ⟨HO, H6, Hb6, Hw6, Ho⟩
  rw [run_bind]
  iapply (chunk_step m ρ K c 7 (accAt m ρ c 7) _) $$ [HO H7 Hi7 Ho]
  · isplitr; · iexact HR
    isplitl [HO]; · iexact HO
    isplitl [H7]; · iexact H7
    isplitl [Hi7]; · iexact Hi7
    iexact Ho
  iintro ⟨HO, H7, Hb7, Hw7, Ho⟩
  rw [run_bind]
  iapply (epilogue_step m ρ c _) $$ [Hsx Hsw Ho]
  · isplitl [Hsx]; · iexact Hsx
    isplitl [Hsw]; · iexact Hsw
    iexact Ho
  iintro ⟨Hsx, Hsw, Ho⟩
  ihave Hb := (back_last m ρ c) $$ [Hb6 Hb7]
  · isplitl [Hb6]; · iexact Hb6
    iexact Hb7
  icases Hb with ⟨Hb, Haw⟩
  ihave Hd := (show (bigSep Finset.univ fun t : Fin 6 => iprop(four (doneR m ρ c) (kk t.val) ∗ (wPts m ρ c (kk t.val) 0 ∗ wPts m ρ c (kk t.val) 1)))
      ⊢ iprop((bigSep Finset.univ fun t : Fin 6 => four (doneR m ρ c) (kk t.val)) ∗ bigSep Finset.univ fun t : Fin 6 => iprop(wPts m ρ c (kk t.val) 0 ∗ wPts m ρ c (kk t.val) 1)) from
    Entails.of_eq (bigSep_sep' _ _ _)) $$ Hd
  icases Hd with ⟨Hd, Hw⟩
  ihave Hw := (Entails.of_eq (w_back m ρ c)) $$ [Hw Hw6 Hw7]
  · isplitl [Hw]; · iexact Hw
    isplitl [Hw6]; · iexact Hw6
    iexact Hw7
  ihave Hd := (show iprop((bigSep Finset.univ fun t : Fin 6 => four (doneR m ρ c) (kk t.val)) ∗ four (doneR m ρ c) 6 ∗ four (doneR m ρ c) 7)
      ⊢ iprop((bigSep Finset.univ fun j : Fin 32 => slotPts c j (rowsAt m ρ c)) ∗ bigSep Finset.univ fun j : Fin 32 => atPos ER (recvCell c j) (lastOf c (cRecv j)) ∅ 0) from
    Entails.of_eq ((chunks_last (fun k => four (doneR m ρ c) k)).symm.trans ((by_chunk (doneR m ρ c)).symm.trans (bigSep_sep' Finset.univ (fun j : Fin 32 => slotPts c j (rowsAt m ρ c)) (fun j : Fin 32 => atPos ER (recvCell c j) (lastOf c (cRecv j)) ∅ 0))))) $$ [Hd H6 H7]
  · isplitl [Hd]; · iexact Hd
    isplitl [H6]; · iexact H6
    iexact H7
  icases Hd with ⟨Hs, Har⟩
  iapply Hk
  isplitl [HO]; · iexact HO
  isplitl [Hs]
  · iexists (rowsAt m ρ c)
    iapply (show (bigSep Finset.univ fun j : Fin 32 => slotPts c j (rowsAt m ρ c)) ⊢ whole c cc0_scratch1 (rowsAt m ρ c) from
      Entails.of_eq (slots_split c (rowsAt m ρ c)).symm)
    iexact Hs
  isplitl [Har]; · iexact Har
  isplitl [Haw]; · iexact Haw
  isplitl [Hb]; · iexact Hb
  isplitl [Hw]; · iexact Hw
  isplitl [Hsx]; · iexact Hsx
  isplitl [Hsw]; · iexact Hsw
  iexact Ho

/-- The body on device `c`. -/
theorem prog_step (c : Dev nD) (Q : PUnit → sProp 𝕄) :
    bodyIn m ρ K c ⊢ iprop((bodyOut m ρ c -∗ Q ⟨⟩) -∗ run c (prog (F := F) c) Q) := by
  unfold bodyIn bodyOut positions payToks scratch staged prog
  rw [cells_split, cells_split]
  iintro ⟨#HR, #Hlev, HO, ⟨⟨Ab, As, Ar, Aw⟩, ⟨Tb, Ts, Tr, Tw⟩⟩, ⟨Hc, Hrc⟩, ⟨S0, S1, S2⟩, Hw, ⟨Hx, Hsx, Hsw⟩, Ho⟩ Hk
  iapply (first_part m ρ K c Q _) $$ [HO Ab Hc Tb Ts Tr S0 S1 Hx]
  · isplitr; · iexact HR
    isplitr; · iexact Hlev
    isplitl [HO]; · iexact HO
    isplitl [Ab]; · iexact Ab
    isplitl [Hc]; · iexact Hc
    isplitl [Tb Ts Tr]
    · isplitl [Tb]; · iexact Tb
      isplitl [Ts]; · iexact Ts
      iexact Tr
    isplitl [S0]; · iexact S0
    isplitl [S1]; · iexact S1
    iexact Hx
  iintro ⟨HO, Ab, HS, Hx⟩
  iapply (own_part m ρ c Q _) $$ [HS Hrc]
  · isplitl [HS]; · iexact HS
    iexact Hrc
  iintro ⟨Hl, Hcm⟩
  iapply (chunks_part m ρ K c Q _) $$ [HO Hcm Ar Aw Tw S2 Hw Hsx Hsw Ho]
  · isplitr; · iexact HR
    isplitl [HO]; · iexact HO
    isplitl [Hcm]; · iexact Hcm
    isplitl [Ar]; · iexact Ar
    isplitl [Aw]; · iexact Aw
    isplitl [Tw]; · iexact Tw
    isplitl [S2]; · iexact S2
    isplitl [Hw]; · iexact Hw
    isplitl [Hsx]; · iexact Hsx
    isplitl [Hsw]; · iexact Hsw
    iexact Ho
  iintro ⟨HO, S1, Ar, Aw, S2, Hw, Hsx, Hsw, Ho⟩
  iapply (run_fupd c (forEach all32 (sendWait (F := F) c)) Q)
  iapply (wait_loop m ρ K c (fun a => iprop(|={(Set.univ : Set ℕ)}=> Q a))) $$ [HO Hl As]
  · isplitl [HO]
    · isplitr; · iexact HR
      iexact HO
    rw [bigSep_sep']
    isplitl [Hl]; · iexact Hl
    iexact As
  iintro ⟨HO, Hq⟩
  ihave Hq := (show (bigSep Finset.univ fun j : Fin 32 => iprop(qPts c j (xqAt m ρ c) ∗ atPos ER (sendCell c j) (lastOf c (cSend j)) ∅ 0))
      ⊢ iprop(whole c cc0_scratch0 (xqAt m ρ c) ∗ bigSep Finset.univ fun j : Fin 32 => atPos ER (sendCell c j) (lastOf c (cSend j)) ∅ 0) from
    Entails.of_eq ((bigSep_sep' _ _ _).trans (by rw [← rows_split]))) $$ Hq
  icases Hq with ⟨Hq, As⟩
  imod (close_all m ρ K c) $$ [Ab As Ar Aw] with Hz
  · isplitr; · iexact HR
    rw [cells_split]
    isplitl [Ab]; · iexact Ab
    isplitl [As]; · iexact As
    isplitl [Ar]; · iexact Ar
    iexact Aw
  imodintro
  iapply Hk
  isplitl [HO]; · iexact HO
  isplitl [Hz]
  · iapply (Entails.of_eq (cells_split (fun k : CI => semVal (kcell (c, k)) 0)))
    iexact Hz
  isplitl [Hq S1 S2]
  · isplitl [Hq]; · iexists _; iexact Hq
    isplitl [S1]; · iexact S1
    iexact S2
  isplitl [Hw]; · iexact Hw
  isplitl [Hx Hsx Hsw]
  · isplitl [Hx]; · iexact Hx
    isplitl [Hsx]; · iexact Hsx
    iexact Hsw
  iexact Ho

end Cert.KernelIdeal.AG

end
-- ==== Proof.KernelIdeal.Obligation.lean ====
/-
The launch of the kernel on all 32 devices: the ghost state of the cells is made and dealt out, the bodies run, and the
final memory holds each device's result with every counter back at zero.
-/
module

public import proofs.«01_k».proof.Proof.KernelIdeal.Body

@[expose] public section

set_option synthInstance.maxSize 4096

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- The launch has one step. -/
theorem cfg0_N : cfg0.N = 1 := by decide
/-- The one grid point. -/
def t₀ : Fin cfg0.N := ⟨0, by rw [cfg0_N]; decide⟩
/-- Its only step. -/
theorem fin_N (t : Fin cfg0.N) : t = t₀ := by
  obtain ⟨t, ht⟩ := t; have := cfg0_N; exact Fin.ext (by simp only [t₀]; omega)

/-- What a device's body starts from, besides its buffers. -/
def start (c : Dev nD) : sProp 𝕄 :=
  iprop((∃ K, records m ρ K ∗ positions (F := F) c ∗ payToks (F := F) c) ∗ levAts L lv
    ∗ (cred (tallyAt (barCell c) () 32) ∗ recvCreds (F := F) c) ∗ whole c main_arg1 (wAt m ρ c))

/-- Before the grid point. -/
def Φ₀ (c : Dev nD) : sProp 𝕄 := iprop(start m ρ c ∗ scratch (F := F) c)
/-- After it. -/
def Φ₁ (c : Dev nD) : sProp 𝕄 :=
  iprop((bigSep Finset.univ fun k : CI => semVal (kcell (c, k)) 0) ∗ scratch (F := F) c ∗ whole c main_arg1 (wAt m ρ c))

/-- The proof data of the pipeline. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => sxstg m ρ c
    | ⟨2, _⟩ => swstg m ρ c
    | ⟨3, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-- A product over the four windows, written out. -/
theorem four_windows (Φ : Fin cfg0.W → sProp 𝕄) :
    bigSep Finset.univ Φ = iprop(Φ (0 : Fin 4) ∗ Φ (1 : Fin 4) ∗ Φ (2 : Fin 4) ∗ Φ (3 : Fin 4)) := bigSep_W0 Φ

theorem fetch_0 (t : Fin cfg0.N) : (cfg0.win (0 : Fin 4)).fetch t = true := by rw [fin_N t]; rfl
theorem fetch_1 (t : Fin cfg0.N) : (cfg0.win (1 : Fin 4)).fetch t = true := by rw [fin_N t]; rfl
theorem fetch_2 (t : Fin cfg0.N) : (cfg0.win (2 : Fin 4)).fetch t = true := by rw [fin_N t]; rfl

/-- A staging buffer held at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-! ## The body's obligation -/

set_option maxRecDepth 4000 in
/-- What the pipeline hands the body. -/
def handed (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

set_option maxRecDepth 4000 in
/-- What the body hands back. -/
def returned (c : Dev nD) : sProp 𝕄 :=
  iprop(Φ₁ m ρ c ∗ (dats m ρ 0 c).owesAt () t₀.succ
    ∗ stg c cc0_stg0_0 (xstg m ρ c) ∗ stg c cc0_stg1_0 (sxstg m ρ c) ∗ stg c cc0_stg2_0 (swstg m ρ c) ∗ stg c cc0_stg3_0 (outAt m ρ c))

theorem owes_in (c : Dev nD) : (dats (F := F) m ρ 0 c).owesAt () t₀.castSucc ⊢ owesS (F := F) c (O₀ c) := by
  unfold Dat.owesAt Pipeline.owesWithin owesS
  iintro ⟨%W, %hW, HO⟩
  iexists W
  iexact HO

theorem owes_out (c : Dev nD) : owesS (F := F) c 0 ⊢ (dats (F := F) m ρ 0 c).owesAt () t₀.succ := by
  unfold Dat.owesAt Pipeline.owesWithin owesS
  iintro ⟨%W, HO⟩
  iexists W
  isplitr; · ipureintro; exact fun _ _ => Or.inl trivial
  iexact HO

theorem stg_exact (c : Dev nD) (b : Ref sig .tc) (X Y : b.ty.Contents (Elt F)) (h : X = Y) : stg c b X ⊢ whole c b Y := by
  subst h
  iintro ⟨%f, %hf, H⟩
  subst hf
  iexact H

theorem exact_stg (c : Dev nD) (b : Ref sig .tc) (X : b.ty.Contents (Elt F)) : whole c b X ⊢ stg c b X := by
  iintro H
  iexists X
  isplitr; · ipureintro; rfl
  iexact H

theorem before_0 (c : Dev nD) (d) : (dats m ρ 0 c).before (0 : Fin 4) t₀ d = xstg m ρ c := by
  unfold Dat.before; rw [if_pos (fetch_0 t₀)]; rfl
theorem before_1 (c : Dev nD) (d) : (dats m ρ 0 c).before (1 : Fin 4) t₀ d = sxstg m ρ c := by
  unfold Dat.before; rw [if_pos (fetch_1 t₀)]; rfl
theorem before_2 (c : Dev nD) (d) : (dats m ρ 0 c).before (2 : Fin 4) t₀ d = swstg m ρ c := by
  unfold Dat.before; rw [if_pos (fetch_2 t₀)]; rfl

/-- A device reads its own number. -/
theorem own_id (c : Dev nD) (Q : Dev nD → sProp 𝕄) : Q c ⊢ run c (Prog.lift .deviceId : P F (Dev nD)) Q := by
  unfold run
  simp only [Prog.lift]
  rw [wp_deviceId]
  exact run_pure (F := F) c c Q

/-- The body takes what it is handed to what it must return. -/
theorem handed_step (c : Dev nD) : handed m ρ c ⊢ run c (Prog.lift .deviceId >>= prog) (fun _ => returned (F := F) m ρ c) := by
  unfold handed Φ₀ start
  iintro ⟨⟨⟨⟨%K, HR, Hp, Ht⟩, Hlev, Hc, Hw⟩, Hs⟩, HO, ⟨%d0, H0⟩, ⟨%d1, H1⟩, ⟨%d2, H2⟩, ⟨%d3, %f3, %h3, H3⟩⟩
  ihave HO := (owes_in m ρ c) $$ HO
  ihave H0 := (stg_exact c cc0_stg0_0 _ _ (before_0 m ρ c d0)) $$ H0
  ihave H1 := (stg_exact c cc0_stg1_0 _ _ (before_1 m ρ c d1)) $$ H1
  ihave H2 := (stg_exact c cc0_stg2_0 _ _ (before_2 m ρ c d2)) $$ H2
  rw [run_bind]
  iapply (own_id c (fun d => run c (prog d) (fun _ => returned (F := F) m ρ c)))
  iapply (prog_step m ρ K c (fun _ => returned (F := F) m ρ c)) $$ [HR Hp Ht Hlev Hc Hw Hs HO H0 H1 H2 H3]
  · unfold bodyIn staged
    isplitl [HR]; · iexact HR
    isplitl [Hlev]; · iexact Hlev
    isplitl [HO]; · iexact HO
    isplitl [Hp Ht]
    · isplitl [Hp]; · iexact Hp
      iexact Ht
    isplitl [Hc]; · iexact Hc
    isplitl [Hs]; · iexact Hs
    isplitl [Hw]; · iexact Hw
    isplitl [H0 H1 H2]
    · isplitl [H0]; · iexact H0
      isplitl [H1]; · iexact H1
      iexact H2
    iexists f3
    iexact H3
  unfold bodyOut staged returned Φ₁
  iintro ⟨HO, Hz, Hs, Hw, ⟨H0, H1, H2⟩, H3⟩
  isplitl [Hz Hs Hw]
  · isplitl [Hz]; · iexact Hz
    isplitl [Hs]; · iexact Hs
    iexact Hw
  isplitl [HO]; · iapply (owes_out m ρ c); iexact HO
  isplitl [H0]; · iapply (exact_stg c cc0_stg0_0 (xstg m ρ c)); iexact H0
  isplitl [H1]; · iapply (exact_stg c cc0_stg1_0 (sxstg m ρ c)); iexact H1
  isplitl [H2]; · iapply (exact_stg c cc0_stg2_0 (swstg m ρ c)); iexact H2
  iapply (exact_stg c cc0_stg3_0 (outAt m ρ c)); iexact H3

set_option maxRecDepth 4000 in
/-- The library's obligation on device `c`. -/
theorem body_obligation (c : Dev nD) : BodyObligation (dats (F := F) m ρ 0 c) (defs₀ (F := F)) 𝒱₀ () Set.univ := fun t => by
  rw [fin_N t]
  rw [four_windows, four_windows]
  simp only [owns_stg]
  show handed m ρ c ⊢ wp frame (wpE (defs₀ (F := F)) 𝒱₀ c none) Set.univ
    (cc0_body xM (Memref.isWhole_whole _) wM (Memref.isWhole_whole _) sxM (Memref.isWhole_whole _) swM (Memref.isWhole_whole _) oM (Memref.isWhole_whole _)
      qM (Memref.isWhole_whole _) rM (Memref.isWhole_whole _) bM (Memref.isWhole_whole _) cc0_scratch3 cc0_scratch4 cc0_scratch5) (fun _ => returned (F := F) m ρ c)
  rw [body_eq]
  exact handed_step m ρ c

end Cert.KernelIdeal.AG

end
-- ==== Proof.KernelIdeal.Run.lean ====
/-
The launch of the kernel on all 32 devices: the ghost state of the cells is made and dealt out, the bodies run, and the
final memory holds each device's result with every counter back at zero.
-/
module

public import proofs.«01_k».proof.Proof.KernelIdeal.Obligation
public import Idealize.ShloMosaic.Lib.Pipeline.CollectiveSegs

@[expose] public section

set_option synthInstance.maxSize 4096

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The ghost state at launch -/

theorem share_eq (c : Dev nD) (w : Fin cfg0.W) : (dats m ρ 0 c).share w = fullShare := by unfold Dat.share; split <;> rfl

/-- All cells of all devices. -/
def allCells : Finset (GSem nD τ sig) := Finset.univ.map ⟨kcell, kcell_injective⟩

/-- A device's own cells' duties, by kind. -/
abbrev TI : Type := Fin 32 ⊕ Fin 32 ⊕ Fin 32 ⊕ (Fin 8 × Fin 2)

/-- The duty of a name: the cell's semaphore, the round and the payer. -/
def tokName : TI → CI × ℕ × D
  | .inl j => (cBar, 0, j)
  | .inr (.inl j) => (cSend j, 0, 0)
  | .inr (.inr (.inl j)) => (cRecv j, 0, 0)
  | .inr (.inr (.inr kh)) => (cW (slotOf kh.1) kh.2, kh.1.val / 2, 0)

theorem tokName_injective : Function.Injective tokName := by
  rintro (a | a | a | ⟨k, h⟩) (b | b | b | ⟨k', h'⟩) e <;> simp only [tokName, Prod.mk.injEq, reduceCtorEq, false_and, Sum.inr.injEq, Sum.inl.injEq] at e ⊢
  · exact e.2.2
  · exact e.1
  · exact e.1
  · obtain ⟨⟨e1, e2⟩, e3, -⟩ := e
    have e1' : k.val % 2 = k'.val % 2 := congrArg Fin.val e1
    exact ⟨Fin.ext (by omega), e2⟩

/-- The duty of a device's own cell. -/
def tokOf (ct : Dev nD × TI) : GSem nD τ sig × ℕ × D := (kcell (ct.1, (tokName ct.2).1), (tokName ct.2).2)

theorem tokOf_injective : Function.Injective tokOf := by
  rintro ⟨c, t⟩ ⟨c', t'⟩ h
  have h1 := kcell_injective (congrArg Prod.fst h)
  have h2 : (tokOf (c, t)).2 = (tokOf (c', t')).2 := congrArg Prod.snd h
  have h3 : c = c' := congrArg Prod.fst h1
  have h4 : (tokName t).1 = (tokName t').1 := congrArg Prod.snd h1
  rw [h3, tokName_injective (Prod.ext h4 h2)]

/-- All duties of all cells. -/
def allToks : Finset (GSem nD τ sig × ℕ × D) := Finset.univ.map ⟨tokOf, tokOf_injective⟩

/-- The ghost state at launch. -/
def u₀ : UU :=
  (initOf (Pipeline.cells cfgs cellOf_inj) (Pipeline.launchToks cfgs cellOf_inj), initOf allCells allToks)

/-- The duties of device `c`'s own cells. -/
def toks (c : Dev nD) : sProp 𝕄 :=
  bigSep Finset.univ fun t : TI => dutyTok ER (tokOf (c, t)).1 (tokOf (c, t)).2.1 (tokOf (c, t)).2.2

/-- What the ghost state at launch deals device `c`. -/
def dealt (c : Dev nD) : sProp 𝕄 :=
  iprop((bigSep Finset.univ fun k : CI => roundState ER (Rd m ρ) (kcell (c, k)) 0)
    ∗ (bigSep Finset.univ fun k : CI => iprop(atPos ER (kcell (c, k)) 0 ∅ 0 ∗ reached ER (kcell (c, k)) 0)) ∗ toks (F := F) c)

/-- What device `c`'s body has of it. -/
def ghost (c : Dev nD) : sProp 𝕄 := iprop(∃ K, records m ρ K ∗ positions (F := F) c ∗ payToks (F := F) c)

theorem deal : BI.own (ER (initOf allCells allToks)) ⊢ (|==> bigSep Finset.univ (dealt m ρ) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-! ## The cells are allocated -/

theorem unscoped_bar (c : Dev nD) : (unscopedSems0 c : sProp 𝕄) = semVal (barCell c) 0 := by
  unfold unscopedSems0; rw [bigSep_eq_bigSepL_of_eq [SemLoc.reg barS] (by decide) (by decide)]; rfl

/-- A device's own semaphores and the barrier semaphore are the protocol's cells. -/
theorem all_sems (c : Dev nD) :
    (bigSep Finset.univ fun k : CI => (semVal (kcell (c, k)) 0 : sProp 𝕄))
      = iprop(unscopedSems0 c ∗ Pipeline.ownSems0 (Ix := Unit) (Name := ℕ) (U := UU) (Lvl := ℕ) (Val := Elt F) (τ := τ) osem c) := by
  rw [unscoped_bar, bigSep_univ_sum, bigSep_univ_of_subsingleton (I := Unit) ()]
  rfl

theorem core_alloc (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k : CI => iprop(∃ κ : ℕ, cellInv ER (Rd m ρ) κ (kcell (c, k))))
          ∗ (bigSep Finset.univ fun k : CI => iprop(atPos ER (kcell (c, k)) 0 ∅ 0 ∗ reached ER (kcell (c, k)) 0)) ∗ toks (F := F) c) := by
  unfold dealt
  iintro ⟨Hos, Hus, Hst, Hat, Htok⟩
  ihave Hv := (Entails.of_eq (all_sems (F := F) c).symm) $$ [Hos Hus]
  · isplitl [Hus] <;> iassumption
  imod (show iprop((bigSep Finset.univ fun k : CI => semVal (kcell (c, k)) 0) ∗ bigSep Finset.univ fun k : CI => roundState ER (Rd m ρ) (kcell (c, k)) 0)
      ⊢ (|={Set.univ}=> bigSep Finset.univ fun k : CI => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The duties, dealt to their payers. -/
theorem toks_around : (bigSep Finset.univ fun c : Dev nD => (toks c : sProp 𝕄)) ⊢ bigSep Finset.univ fun c : Dev nD => payToks c := by
  have e : (fun c : Dev nD => (toks c : sProp 𝕄)) = fun c : Dev nD =>
      iprop((bigSep Finset.univ fun j : Fin 32 => dutyTok ER (barCell c) 0 j) ∗ (bigSep Finset.univ fun j : Fin 32 => dutyTok ER (sendCell c j) 0 0)
        ∗ (bigSep Finset.univ fun j : Fin 32 => dutyTok ER (recvCell c j) 0 0)
        ∗ bigSep Finset.univ fun kh : Fin 8 × Fin 2 => dutyTok ER (wCell c (slotOf kh.1) kh.2) (kh.1.val / 2) 0) := by
    funext c
    unfold toks
    rw [bigSep_univ_sum, bigSep_univ_sum, bigSep_univ_sum]
    rfl
  rw [e]
  unfold payToks
  rw [bigSep_sep', bigSep_sep', bigSep_sep', bigSep_sep', bigSep_sep', bigSep_sep',
    bigSep_univ_comm (fun (c : Dev nD) (j : Fin 32) => (dutyTok ER (barCell c) 0 j : sProp 𝕄)),
    bigSep_univ_comm (fun (c : Dev nD) (j : Fin 32) => (dutyTok ER (recvCell c j) 0 0 : sProp 𝕄))]

theorem regroup :
    (bigSep Finset.univ fun c : Dev nD => iprop((bigSep Finset.univ fun k : CI => iprop(∃ κ : ℕ, cellInv ER (Rd m ρ) κ (kcell (c, k))))
          ∗ (bigSep Finset.univ fun k : CI => iprop(atPos ER (kcell (c, k)) 0 ∅ 0 ∗ reached ER (kcell (c, k)) 0)) ∗ toks c) : sProp 𝕄)
      ⊢ bigSep Finset.univ (ghost m ρ) := by
  rw [bigSep_sep', bigSep_sep', ← bigSep_univ_prod (fun ck : Dev nD × CI => iprop(∃ κ : ℕ, cellInv ER (Rd m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd m ρ) κ (kcell ck) : sProp 𝕄))) $$ HI
  icases HK with ⟨%K, #HI⟩
  ihave Htk := (toks_around (F := F)) $$ Htok
  iapply (with_each (records m ρ K) (fun c : Dev nD => iprop(positions (F := F) c ∗ payToks (F := F) c)) (ghost m ρ) (fun c => by
    unfold ghost
    iintro ⟨HR, Hp⟩
    iexists K
    isplitl [HR]; · iexact HR
    iexact Hp))
  isplitr
  · unfold records; isplitl; · iexact HI
    iexact HR
  · rw [bigSep_sep']
    isplitl [Hat]; · iexact Hat
    iexact Htk

/-- The step from what every device is dealt to what every body starts from. -/
theorem glob : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (ghost m ρ) :=
  ((bigSep_mono fun c _ => core_alloc m ρ c).trans (bigSep_fupd _ _)).trans (BI.fupd_mono (regroup m ρ))

/-! ## The credit at launch -/

/-- A sum of tallies of the same size at a cell. -/
theorem sum_tally {T : Type} [DecidableEq T] (S : Finset T) (g : T → GSem nD τ sig) (n : ℕ) (g' : GSem nD τ sig) :
    (∑ t ∈ S, (tallyAt (g t) () n : CellTallies nD τ sig Unit)) g' () = ∑ t ∈ S, if g' = g t then n else 0 := by
  rw [Finset.sum_apply, Finsupp.finset_sum_apply]
  refine Finset.sum_congr rfl fun t _ => ?_
  rw [tallyAt_apply]
  simp only [and_true]

theorem recv_cell_iff {a b : Dev nD} {i j : Fin 32} : recvCell a i = recvCell b j ↔ a = b ∧ i = j := by
  constructor
  · intro h
    have h' := kcell_injective (show kcell (a, cRecv i) = kcell (b, cRecv j) from h)
    simp only [Prod.mk.injEq, Sum.inr.injEq, Sum.inl.injEq] at h'
    exact h'
  · rintro ⟨rfl, rfl⟩; rfl
theorem bar_cell_iff {a b : Dev nD} : barCell a = barCell b ↔ a = b := by
  constructor
  · intro h
    have h' := kcell_injective (show kcell (a, cBar) = kcell (b, cBar) from h)
    exact congrArg Prod.fst h'
  · rintro rfl; rfl
theorem recv_bar {a b : Dev nD} {i : Fin 32} : recvCell a i ≠ barCell b := fun h => by
  have h' := kcell_injective (show kcell (a, cRecv i) = kcell (b, cBar) from h)
  simp only [Prod.mk.injEq, reduceCtorEq, and_false] at h'

/-- Every device owes a barrier cell one unit. -/
theorem owed_bar (d c : Dev nD) : O₀ d (barCell c) () = 1 := by
  unfold O₀ recvRem barRem
  rw [Pi.add_apply, Finsupp.add_apply, sum_tally, sum_tally, Finset.sum_eq_zero (fun j _ => if_neg fun h => recv_bar h.symm), zero_add,
    Finset.sum_eq_single_of_mem c (by simp) (fun j _ hj => if_neg fun h => hj (bar_cell_iff.mp h).symm), if_pos rfl]

/-- A receive cell is owed its copy's credit by the device it is for. -/
theorem owed_recv (d c : Dev nD) (j : Fin 32) (hj : j ≠ c) : O₀ d (recvCell c j) () = if d = j then N else 0 := by
  unfold O₀ recvRem barRem
  rw [Pi.add_apply, Finsupp.add_apply, sum_tally, sum_tally, Finset.sum_eq_zero (s := Finset.univ.filter fun j : Fin 32 => 0 ≤ j.val)
    (fun i _ => if_neg fun h => recv_bar h), add_zero]
  by_cases h : d = j
  · subst h
    rw [if_pos rfl, Finset.sum_eq_single_of_mem c (by simp [Ne.symm hj]) (fun i _ hi => if_neg fun h => hi (recv_cell_iff.mp h).1.symm), if_pos rfl]
  · rw [if_neg h]
    exact Finset.sum_eq_zero fun i _ => if_neg fun e => h (recv_cell_iff.mp e).2.symm

theorem launch_bar (c : Dev nD) :
    tallyOn (barCell c) (launchCredit (Pipeline.owing O₀) 0 (barCell c)) = (tallyAt (barCell c) () 32 : CellTallies nD τ sig Unit) := by
  unfold tallyAt; refine congrArg _ (Finsupp.ext fun u => ?_); cases u
  rw [Pipeline.launchCredit_owing, Finsupp.single_eq_same, Finset.sum_congr rfl fun d _ => owed_bar d c]
  rfl

theorem launch_recv (c : Dev nD) (j : Fin 32) (hj : j ≠ c) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j hj, Finset.sum_ite_eq' Finset.univ j fun _ => N,
    if_pos (Finset.mem_univ _)]

theorem creds (c : Dev nD) :
    (Pipeline.launchCred O₀ c : sProp 𝕄) ⊢ iprop(cred (tallyAt (barCell c) () 32) ∗ recvCreds (F := F) c) := by
  have h : (Pipeline.launchCred O₀ c : sProp 𝕄)
      ⊢ bigSep Finset.univ fun k : CI => (cred (tallyOn (kcell (c, k)) (launchCredit (Pipeline.owing O₀) 0 (kcell (c, k)))) : sProp 𝕄) := by
    unfold Pipeline.launchCred
    refine (bigSep_subset (Finset.subset_univ (Finset.univ.map ⟨csem, csem_injective⟩))).trans ?_
    rw [bigSep_map]
    exact .refl _
  refine h.trans ?_
  rw [cells_split]
  iintro ⟨Hb, -, Hr, -⟩
  isplitl [Hb]
  · rw [← launch_bar]
    iexact Hb
  unfold recvCreds
  iapply (show (bigSep Finset.univ fun j : Fin 32 => (cred (tallyOn (recvCell c j) (launchCredit (Pipeline.owing O₀) 0 (recvCell c j))) : sProp 𝕄))
      ⊢ bigSep (Finset.univ.erase c) fun j : Fin 32 => cred (tallyAt (recvCell c j) () N) from
    (bigSep_subset (Finset.erase_subset c Finset.univ)).trans (Entails.of_eq (bigSep_congr fun j hj => by
      rw [launch_recv c j (Finset.mem_erase.mp hj).1])))
  iexact Hr

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  rw [Pipeline.unscopedRestP_none, show Pipeline.unscopedRest cfg0.spec c (fun b => m ((c : Thread nD τ).loc b))
    = (iprop(((c : Thread nD τ).loc main_arg1) ↦{fullShare} m ((c : Thread nD τ).loc main_arg1)) : sProp 𝕄) from
      unscopedRest0_eq c (fun b => m ((c : Thread nD τ).loc b))]
  iintro ⟨Hw, Hlev, Hcr, -, HG⟩
  ihave Hc := (creds (F := F) c) $$ Hcr
  imodintro
  unfold start ghost
  isplitl
  · isplitl [HG]; · iexact HG
    isplitl [Hlev]; · iexact Hlev
    isplitl [Hc]; · iexact Hc
    iexact Hw
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop((unscopedSems0 c ∗ whole c main_arg1 (wAt m ρ c)) ∗ Pipeline.ownSems0 osem c ∗ Pipeline.scopedRest cfg0.spec c) := by
  rw [show (dats m ρ 0 c).Φ (Fin.last cfg0.N) = Φ₁ m ρ c from rfl, scopedRest0_eq]
  unfold Φ₁ scratch
  rw [all_sems]
  iintro ⟨⟨Hu, Ho⟩, Hr, Hw⟩
  isplitl [Hu Hw]
  · isplitl [Hu]; · iexact Hu
    iexact Hw
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What the arrays of the windows hold at the end. -/
def finalA (c : Dev nD) (w : Fin cfg0.W) : Buf (Elt F) ((cfg0.win w).arr.view.loc (c : Thread nD τ)) := (dats m ρ 0 c).arrAt w cfg0.N

/-- What is read off the end besides the windows' arrays: the counters, and the second factor unchanged. -/
def endsAt (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)

theorem ends_read (c : Dev nD) (s' : Phys nD τ sig (Elt F)) :
    iprop((unscopedSems0 c ∗ whole c main_arg1 (wAt m ρ c)) ∗ emp ∗ SI s')
      ⊢ (|={Set.univ}=> iprop(⌜endsAt m c s'.mem⌝ ∗ SI s') : sProp 𝕄) := by
  iintro ⟨⟨Hu, Hw⟩, -, HSI⟩
  icombine HSI Hw gives %hw
  imod (Pipeline.unscopedSems0_read (X := unscopedSems0 c) (c := c) fupd_intro s') $$ [Hu HSI] with ⟨%hs, HSI⟩
  · isplitl [Hu] <;> iassumption
  imodintro
  isplitr
  · ipureintro
    exact ⟨hs, funext fun i => hw i (Finset.mem_univ i)⟩
  iexact HSI

set_option maxRecDepth 8000 in
/-- From any memory whose counters are zero every fair execution of `main` on the 32 devices ends, each device's
    windowed arrays at the contents the body leaves there, the second factor as it was, and every counter at zero. -/
theorem run_main : θ_run defs (onTc (τ := τ) (main (F := F))) (s₀ m ρ) (fun r =>
    (∀ c : Dev nD, (∀ w : Fin cfg0.W, r.2.mem ((cfg0.win w).arr.view.loc (c : Thread nD τ)) = finalA m ρ c w)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m ρ) (G' := ghost m ρ) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := glob m ρ)
    (hA := fun _ _ => rfl) (hpf := fun _ k => k.elim0)
    (X := start m ρ) (Y := fun c => iprop(unscopedSems0 c ∗ whole c main_arg1 (wAt m ρ c))) (Z := fun _ => iprop(emp))
    (hX := start_intro m ρ) (hin := phi0_intro m ρ) (hout := phi1_exit m ρ)
    (QY := endsAt m)
    (hY := ends_read m ρ)
    (hQ := fun _ h hs => ⟨fun c => ⟨(h c).1, (h c).2.2.2⟩, sem_eq_zero hs fun c => (h c).2.2.1⟩)

/-- The first factor's array after the run holds what it held. -/
theorem finalA_x (c : Dev nD) : finalA m ρ c (0 : Fin 4) = (s₀ m ρ).mem (win0_0.arr.view.loc (c : Thread nD τ)) :=
  (dats (F := F) m ρ 0 c).arrAt_in (0 : Fin 4) rfl _
/-- The first scale's array after the run holds what it held. -/
theorem finalA_sx (c : Dev nD) : finalA m ρ c (1 : Fin 4) = (s₀ m ρ).mem (win0_1.arr.view.loc (c : Thread nD τ)) :=
  (dats (F := F) m ρ 0 c).arrAt_in (1 : Fin 4) rfl _
/-- The second scale's array after the run holds what it held. -/
theorem finalA_sw (c : Dev nD) : finalA m ρ c (2 : Fin 4) = (s₀ m ρ).mem (win0_2.arr.view.loc (c : Thread nD τ)) :=
  (dats (F := F) m ρ 0 c).arrAt_in (2 : Fin 4) rfl _

end Cert.KernelIdeal.AG

end
-- ==== Proof.KernelIdeal.Frames.lean ====
/-
  The frame of the kernel: read off the run, every argument array ends holding what it held and every counter ends at
  zero, for any float values.
-/
module

public import proofs.«01_k».proof.Proof.KernelIdeal.Run

@[expose] public section

set_option synthInstance.maxSize 4096

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-- A final state holds the four arguments of device `c` as the launch did. -/
def argsKept (s : MemSt nD τ sig (Elt F)) (c : Dev nD) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)

/-- Every fair execution on the 32 devices ends with each device's result at what the output window leaves, the four
    arguments as they were, and every counter at zero. -/
theorem run_ends : θ_run defs (onTc (τ := τ) (main (F := F))) ⟨m, fun _ => 0, ρ⟩ (fun r =>
    (∀ c : Dev nD, r.2.mem ((c.tc : Thread nD τ).loc main_v1) = finalA m ρ c (3 : Fin 4) ∧ argsKept m r.2 c) ∧ r.2.sem = fun _ => 0) :=
  (θ_run defs _ _).mono (fun _ h => ⟨fun c => ⟨(h.1 c).1 (3 : Fin 4), ((h.1 c).1 (0 : Fin 4)).trans (finalA_x m ρ c), (h.1 c).2,
    ((h.1 c).1 (1 : Fin 4)).trans (finalA_sx m ρ c), ((h.1 c).1 (2 : Fin 4)).trans (finalA_sw m ρ c)⟩, h.2⟩) (run_main m ρ)

/-- The frame alone: arguments unchanged, counters at zero. -/
theorem run_frame : θ_run defs (onTc (τ := τ) (main (F := F))) ⟨m, fun _ => 0, ρ⟩ (fun r =>
    (∀ c : Dev nD, argsKept m r.2 c) ∧ r.2.sem = fun _ => 0) :=
  (θ_run defs _ _).mono (fun _ h => ⟨fun c => (h.1 c).2, h.2⟩) (run_ends m ρ)

end Cert.KernelIdeal.AG

end
-- ==== Proof.Same.lean ====
/-
  The printed kernel and the kernel printed for the ideal instance are one program under two names: no operation was
  rewritten. So what is proved of the second for any float values holds of the first.
-/
module

public import proofs.«01_k».proof.Defs
public import proofs.«01_k».proof.Proof.Gen.Kernel
public import proofs.«01_k».proof.Proof.KernelIdeal.Frames

@[expose] public section

noncomputable section

namespace Cert.Proof

open Idealize.ShloMosaic Idealize.SL.Sem

variable {F : FTy → Type} [FloatOps F]

/-- The two printings of the kernel's body are the same term. -/
theorem body_same : @Kernel.cc0_body F _ Kernel.Gen.facts = @KernelIdeal.cc0_body F _ KernelIdeal.Gen.facts := rfl

/-- So are the two tables of bodies, which have one label each: -/
theorem table_same : @Kernel.defs₀ F _ Kernel.Gen.facts = @KernelIdeal.defs₀ F _ KernelIdeal.Gen.facts := by
  unfold Kernel.defs₀ KernelIdeal.defs₀
  refine congrArg (Defs.onTc (nD := Kernel.nD) (τ := Kernel.τ) (sig := Kernel.sig) (Val := Elt F) (Λ := Kernel.Λ₀)) ?_
  funext l x
  match l, x with
  | ⟨0, _⟩, (t, s) =>
    show @Kernel.cc0_body F _ Kernel.Gen.facts _ _ _ _ _ _ _ _ _ _ _ _ _ _ _ _ _ _ _
      = @KernelIdeal.cc0_body F _ KernelIdeal.Gen.facts _ _ _ _ _ _ _ _ _ _ _ _ _ _ _ _ _ _ _
    rw [body_same]

/-- and so are the tables with the pipeline's entries. -/
theorem defs_same : @Kernel.defs F _ Kernel.Gen.facts = @KernelIdeal.defs F _ KernelIdeal.Gen.facts :=
  congrArg (Pipeline.defs (KernelIdeal.pcfgs (F := F))) table_same

/-- The frame of the printed kernel: on the 32 devices every fair execution ends with the arguments as they were and
    every counter at zero. -/
theorem run_frame (m : (ℓ : Loc Kernel.nD Kernel.τ Kernel.sig) → Buf (Elt F) ℓ) (g : Dev Kernel.nD → PrngReg) :
    θ_run (Kernel.defs (F := F)) (onTc (τ := Kernel.τ) (Kernel.main (F := F))) ⟨m, fun _ => 0, g⟩
      (fun r => (∀ c : Dev KernelIdeal.nD, KernelIdeal.AG.argsKept m r.2 c) ∧ r.2.sem = fun _ => 0) := by
  rw [defs_same]
  exact KernelIdeal.AG.run_frame m g

end Cert.Proof

end
-- ==== Proof.KernelIdeal.Reads.lean ====
/-
  What the kernel's values are read from, for any float values: the result array is the output block the body leaves;
  the staged blocks are the argument arrays; a slot of the landing buffer, read at an index, is an element of a peer's
  narrowed block, and a chunk buffer an element of the second factor.
-/
module

public import proofs.«01_k».proof.Proof.KernelIdeal.Frames

@[expose] public section

set_option synthInstance.maxSize 4096

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-- The result array after the run is the output block. -/
theorem finalA_out (c : Dev nD) : finalA m ρ c (3 : Fin 4) = outAt m ρ c := by
  have hz : (fun a => (win0_3.index (0 : Fin 1)) a * main_v1.ty.shape.size a) = fun _ => 0 := funext fun a => by fin_cases a <;> decide
  have hr := fun f => Memref.read_access_unit_zero (Elt F) main_v1 hz (fun a => by fin_cases a <;> decide) f
  refine (hr _).symm.trans ?_
  show (win0_3.blk (0 : Fin 1)).view.read (Elt F) (finalA m ρ c (3 : Fin 4)) = _
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from by decide, if_pos rfl]
  exact View.read_write_univ _ _

/-- The first factor's block, staged, is the argument. -/
theorem xstg_eq (c : Dev nD) : xstg m ρ c = m ((c.tc : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- The first scale, staged, is the argument; -/
theorem sxstg_eq (c : Dev nD) : sxstg m ρ c = m ((c.tc : Thread nD τ).loc main_arg2) := by
  have hz : (fun a => (win0_1.index (0 : Fin 1)) a * main_arg2.ty.shape.size a) = fun _ => 0 := funext fun a => by fin_cases a; decide
  exact Memref.read_access_unit_zero (Elt F) main_arg2 hz (fun a => by fin_cases a; decide) _

/-- the second scale likewise. -/
theorem swstg_eq (c : Dev nD) : swstg m ρ c = m ((c.tc : Thread nD τ).loc main_arg3) := by
  have hz : (fun a => (win0_2.index (0 : Fin 1)) a * main_arg3.ty.shape.size a) = fun _ => 0 := funext fun a => by fin_cases a; decide
  exact Memref.read_access_unit_zero (Elt F) main_arg3 hz (fun a => by fin_cases a; decide) _

/-- Slot `j` read at an index: an element of the rows that device `j` sent. -/
theorem slotV_at (c : Dev nD) (j : Fin 32) (u : Fin 1) (a b : Fin 128) :
    slotV m ρ c j (ValueIdx.ix3 u a b)
      = xqAt m ρ j (ValueIdx.ix2 (⟨128 * c.val + a.val, by have : c.val < 32 := c.isLt; omega⟩ : Fin 4096) b) := by
  unfold slotV
  have h : (rM.access (Rect.unit (s := S32x128x128) ![j.val, 0, 0] S1x128x128.size (inbR j))).emb (ValueIdx.ix3 u a b)
      = (ValueIdx.ix3 j a b : S32x128x128.Idx) := by
    funext i
    refine Fin.ext ?_
    show (Rect.emb _ _ i).val = _
    fin_cases i <;> simp [Rect.emb_apply]
  rw [View.read_apply, h]; rfl

/-- The buffer of chunk `k` read at an index: an element of the chunk. -/
theorem bufV_at (c : Dev nD) (k : Fin 8) (u : Fin 1) (a : Fin 512) (b : Fin 8192) :
    bufV m ρ c k (ValueIdx.ix3 u a b)
      = m ((c.tc : Thread nD τ).loc main_arg1) (ValueIdx.ix2 (⟨512 * k.val + a.val, by omega⟩ : Fin 4096) b) := by
  unfold bufV
  have h : (bM.access (bSlot (slotOf k))).emb (ValueIdx.ix3 u a b) = (ValueIdx.ix3 (slotOf k) a b : S2x512x8192.Idx) := by
    funext i
    refine Fin.ext ?_
    show (Rect.emb _ _ i).val = _
    fin_cases i <;> simp [Rect.emb_apply]
  rw [View.read_apply, h]; rfl

end Cert.KernelIdeal.AG

end
-- ==== Proof.KernelIdeal.Value.lean ====
/-
  The kernel's result at the ideal instance, where a float is an extended real and a change of format the identity: the
  output block of device `c`, read at row `a` and column `b`, is the larger of zero and the sum over all 4096 contracted
  coordinates of the products, times the two scales' product.
-/
module

public import proofs.«01_k».proof.Proof.KernelIdeal.Reads
public import Idealize.ShloMosaic.Lib.MatmulPlain
public import Idealize.ShloMosaic.Lib.Pipeline.Value
public import Idealize.ShloMosaic.PureOps.Ideal.Laws

@[expose] public section

set_option synthInstance.maxSize 4096

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable (m : (ℓ : Loc nD τ sig) → Buf (Elt Ideal) ℓ) (ρ : Dev nD → PrngReg)

/-- Row `r`, column `q` of the block of the first factor that device `d` holds. -/
def xEnt (d : Dev nD) (r : Fin 4096) (q : Fin 128) : EReal := m ((d.tc : Thread nD τ).loc main_arg0) (ValueIdx.ix2 r q)
/-- Row `p`, column `b` of the second factor on device `d`. -/
def wEnt (d : Dev nD) (p : Fin 4096) (b : Fin 8192) : EReal := m ((d.tc : Thread nD τ).loc main_arg1) (ValueIdx.ix2 p b)

/-- Row `a`, column `b` of an output block. -/
def oEnt (A : (cc0_stg3_0 : Ref sig .tc).ty.Contents (Elt Ideal)) (a : Fin 128) (b : Fin 8192) : EReal := A (ValueIdx.ix2 a b)
/-- The product of the two scales on device `d`. -/
def sEnt (d : Dev nD) : EReal :=
  HMul.hMul (α := EReal) (β := EReal) (m ((d.tc : Thread nD τ).loc main_arg2) (ValueIdx.ix1 0)) (m ((d.tc : Thread nD τ).loc main_arg3) (ValueIdx.ix1 0))

/-- Row `a` of device `c`'s part of the rows. -/
abbrev rowOf (c : Dev nD) (a : Fin 128) : Fin 4096 := ⟨128 * c.val + a.val, by have : c.val < 32 := c.isLt; omega⟩

/-- Narrowing changes nothing: a device's narrowed block is its block. -/
theorem xqAt_eq (c : Dev nD) : xqAt m ρ c = m ((c.tc : Thread nD τ).loc main_arg0) := by
  unfold xqAt k0_pay2 k0_pay1
  rw [shapeCast_self, shapeCast_self, xstg_eq]
  rfl

/-- Four blocks side by side, read at an index: the block the column names, at the column within it. -/
theorem four_at (f : Fin 4 → FVec Ideal S128x128 .fp8e4m3) (a : Fin 128) (q : Fin 512)
    (h : Shape.Concatenates [S128x128, S128x128, S128x128, S128x128] S128x512 1) :
    concatenate S128x512 1 [⟨S128x128, f 0⟩, ⟨S128x128, f 1⟩, ⟨S128x128, f 2⟩, ⟨S128x128, f 3⟩] h (ValueIdx.ix2 a q)
      = f ⟨q.val / 128, by omega⟩ (ValueIdx.ix2 a (⟨q.val % 128, Nat.mod_lt _ (by norm_num)⟩ : Fin 128)) :=
  concatenate_ofFn_apply (t := S128x512) (s₁ := S128x128) 1 f h rfl 128 rfl _ ⟨q.val / 128, by omega⟩ rfl _ rfl
    (fun b hb => by fin_cases b <;> first | rfl | exact absurd rfl hb)

/-- A first term that is zero drops out. -/
theorem zero_plus {z s t : EReal} (hz : z = 0) (h : s = t) : z + s = t := by rw [hz, zero_add, h]

/-- The product of one chunk: four slots side by side times 512 rows of the second factor. -/
theorem accStep_at (c : Dev nD) (k : Fin 8) (A : (cc0_stg3_0 : Ref sig .tc).ty.Contents (Elt Ideal)) (a : Fin 128) (b : Fin 8192) :
    oEnt (accStep m ρ c k A) a b = oEnt A a b
      + ∑ q : Fin 512, xEnt m (⟨4 * k.val + q.val / 128, by omega⟩ : Fin 32) (rowOf c a) ⟨q.val % 128, Nat.mod_lt _ (by norm_num)⟩
          * wEnt m c ⟨512 * k.val + q.val, by omega⟩ b := by
  unfold accStep k0_pay5 oEnt
  rw [shapeCast_self]
  refine congrArg (fun z : EReal => oEnt A a b + z) ?_
  refine (Ideal.matmul_plain_apply (M := 128) (K := 512) (N := 8192) none _ _ _ a b).trans ?_
  refine zero_plus Ideal.ofBits_zero_f32 ?_
  refine Finset.sum_congr rfl fun q _ => ?_
  refine congrArg₂ (· * ·) ?_ ?_
  · refine (four_at (fun r => shapeCast S128x128 (slotV m ρ c (pk k r)) shapeCasts_S1x128x128_S128x128) a q _).trans ?_
    refine (ValueIdx.shapeCast_1ab_ab_apply _ _ _ _).trans ?_
    rw [slotV_at, xqAt_eq]
    rfl
  · refine (ValueIdx.shapeCast_1ab_ab_apply (bufV m ρ c k) shapeCasts_S1x512x8192_S512x8192 q b).trans ?_
    rw [bufV_at]
    rfl

/-- One product of the contraction, numbered by a natural; zero past the end. -/
def term (c : Dev nD) (a : Fin 128) (b : Fin 8192) (p : ℕ) : EReal :=
  if h : p < 4096 then xEnt m (⟨p / 128, by omega⟩ : Fin 32) (rowOf c a) ⟨p % 128, Nat.mod_lt _ (by norm_num)⟩ * wEnt m c ⟨p, h⟩ b else 0

/-- After `n` chunks the output block holds the sum of the first `512 n` products. -/
theorem accAt_at (c : Dev nD) (a : Fin 128) (b : Fin 8192) (n : ℕ) (hn : n ≤ 8) :
    oEnt (accAt m ρ c n) a b = ∑ p ∈ Finset.range (512 * n), term m c a b p := by
  induction n with
  | zero => exact Ideal.ofBits_zero_f32
  | succ n ih =>
    refine (accStep_at m ρ c (kk n) (accAt m ρ c n) a b).trans ?_
    rw [ih (by omega), Nat.mul_succ, Finset.sum_range_add]
    refine congrArg (_ + ·) ?_
    rw [Finset.sum_range]
    refine Finset.sum_congr rfl fun q _ => ?_
    have hq := q.isLt
    have hk : (kk n).val = n := Nat.mod_eq_of_lt (by omega)
    unfold term
    rw [dif_pos (by omega)]
    have e1 : (⟨4 * (kk n).val + q.val / 128, by omega⟩ : Fin 32) = ⟨(512 * n + q.val) / 128, by omega⟩ := Fin.ext (by show 4 * (kk n).val + q.val / 128 = (512 * n + q.val) / 128; omega)
    have e2 : (⟨q.val % 128, Nat.mod_lt _ (by norm_num)⟩ : Fin 128) = ⟨(512 * n + q.val) % 128, Nat.mod_lt _ (by norm_num)⟩ := Fin.ext (by show q.val % 128 = (512 * n + q.val) % 128; omega)
    have e3 : (⟨512 * (kk n).val + q.val, by omega⟩ : Fin 4096) = ⟨512 * n + q.val, by omega⟩ := Fin.ext (by show 512 * (kk n).val + q.val = 512 * n + q.val; omega)
    rw [e1, e2, e3]

/-- The output block after the last chunk, times the scales, below zero cut off. -/
theorem outAt_at (c : Dev nD) (a : Fin 128) (b : Fin 8192) :
    oEnt (outAt m ρ c) a b
      = max ((∑ p : Fin 4096, xEnt m (⟨p.val / 128, by omega⟩ : Fin 32) (rowOf c a) ⟨p.val % 128, Nat.mod_lt _ (by norm_num)⟩ * wEnt m c p b)
          * sEnt m c) 0 := by
  unfold outAt k0_pay21 k0_pay19 k0_pay20
  rw [shapeCast_self, sxstg_eq, swstg_eq]
  have hs : oEnt (accAt m ρ c 8) a b = ∑ p : Fin 4096, xEnt m (⟨p.val / 128, by omega⟩ : Fin 32) (rowOf c a) ⟨p.val % 128, Nat.mod_lt _ (by norm_num)⟩ * wEnt m c p b := by
    refine (accAt_at m ρ c a b 8 (le_refl _)).trans ?_
    rw [Finset.sum_range]
    refine Finset.sum_congr rfl fun p _ => ?_
    unfold term
    rw [dif_pos p.isLt]
  rw [← hs]
  refine congrArg₂ max ?_ Ideal.ofBits_zero_f32
  refine congrArg₂ (· * ·) rfl ?_
  refine congrArg₂ (· * ·) ?_ ?_ <;> exact congrArg _ (idx1_eq _ _)

end Cert.KernelIdeal.AG

end
-- ==== Proof.Whole.lean ====
/-
  The reference read entry by entry, and each device's result as its block of rows of it.
-/
module

public import proofs.«01_k».proof.Proof.KernelIdeal.Value
public import proofs.«01_k».proof.Proof.Gen.ReferenceIdeal.Run
public import Idealize.ShloMosaic.Lib.Layout
public import Idealize.ShloMosaic.Lib.StackMember
public import Idealize.ShloMosaic.Lib.IdealHost
public import Idealize.ShloMosaic.PureOps.Ideal.Laws

@[expose] public section

noncomputable section

namespace Cert.Proof

open Idealize.ShloMosaic Idealize.SL.Sem

section Reference

open Cert.ReferenceIdeal Cert.ReferenceIdeal.Gen

variable (x : S4096x4096.Idx → EReal) (w : S4096x8192.Idx → EReal) (p q : S1.Idx → EReal)

/-- What the reference computes of its four arguments, operation by operation. -/
def refOut : S4096x8192.Idx → EReal :=
  maximumf (F := Ideal) (φ := .f32) (mulf (F := Ideal) (φ := .f32) (Host.dotGeneral (F := Ideal) (φ₁ := .f32) (φ₂ := .f32) dot_S4096x4096_S4096x8192_S4096x8192_1_0_0_1_n_n none x w)
      (broadcastInDim S4096x8192 ![0, 1] bcast_S1x1_S4096x8192_0_1 (broadcastInDim S1x1 ![1] bcast_S1_S1x1_1 (mulf (F := Ideal) (φ := .f32) p q))))
    (broadcastInDim S4096x8192 ![] bcast_S_S4096x8192 (constant (F := Ideal) S_ .f32 0x00000000#32))

/-- One entry of it: the row by the column, times the product of the scales, below zero cut off. -/
theorem refOut_at (r : Fin 4096) (b : Fin 8192) :
    refOut x w p q (ValueIdx.ix2 r b)
      = max ((∑ k : Fin 4096, x (ValueIdx.ix2 r k) * w (ValueIdx.ix2 k b)) * (p (ValueIdx.ix1 0) * q (ValueIdx.ix1 0))) 0 := by
  unfold refOut
  refine congrArg₂ max (congrArg₂ (· * ·) ?_ ?_) ?_
  · exact Idealize.ShloMosaic.StackMember.dotGeneral_plain_apply (m := 4096) (k := 4096) (n := 8192) none x w r b
  · have one (i : S1.Idx) : i = ValueIdx.ix1 0 := funext fun a => match a with | ⟨0, _⟩ => Subsingleton.elim (α := Fin 1) _ _
    exact congrArg (fun i => p i * q i) (one _)
  · exact Ideal.ofBits_zero_f32

end Reference

section Blocks

open Cert.KernelIdeal Cert.KernelIdeal.AG

variable (m : (ℓ : Loc nD τ sig) → Buf (Elt Ideal) ℓ) (ρ : Dev nD → PrngReg)
variable (x : Cert.ReferenceIdeal.S4096x4096.Idx → EReal) (w : Cert.ReferenceIdeal.S4096x8192.Idx → EReal)
  (p q : Cert.ReferenceIdeal.S1.Idx → EReal)

/-- The devices hold the whole arrays between them: columns of the first, all of the others. -/
def Agree : Prop := ∀ c : Dev nD,
  m ((c.tc : Thread nD τ).loc main_arg0) = Layout.block ⟨2, ![4096, 128]⟩ ⟨2, ![4096, 4096]⟩ 1 32 c x
    ∧ m ((c.tc : Thread nD τ).loc main_arg1) = w
    ∧ m ((c.tc : Thread nD τ).loc main_arg2) = p
    ∧ m ((c.tc : Thread nD τ).loc main_arg3) = q

/-- Each device's result is its 128 rows of the reference's. -/
theorem out_block (h : Agree m x w p q) (c : Dev nD) :
    outAt m ρ c = Layout.block ⟨2, ![128, 8192]⟩ ⟨2, ![4096, 8192]⟩ 0 32 c (refOut x w p q) := by
  funext i
  obtain ⟨a, b, rfl⟩ : ∃ (a : Fin 128) (b : Fin 8192), i = ValueIdx.ix2 a b := ⟨i 0, i 1, ValueIdx.eq_ix2 i⟩
  refine (outAt_at m ρ c a b).trans ?_
  have hrow (t : Layout.Tiles ⟨2, ![128, 8192]⟩ ⟨2, ![4096, 8192]⟩ 0 32) : t.idx c (ValueIdx.ix2 a b) = ValueIdx.ix2 (rowOf c a) b := by
    funext d
    match d with
    | ⟨0, _⟩ => exact Fin.ext (by show c.val * 128 + a.val = 128 * c.val + a.val; omega)
    | ⟨1, _⟩ => rfl
  refine Eq.trans ?_ (congrArg (refOut x w p q) (hrow _)).symm
  rw [refOut_at]
  have hs : sEnt m c = p (ValueIdx.ix1 0) * q (ValueIdx.ix1 0) := by
    unfold sEnt
    rw [(h c).2.2.1, (h c).2.2.2]
  rw [hs]
  refine congrArg (fun z : EReal => max (z * _) 0) (Finset.sum_congr rfl fun k _ => congrArg₂ (· * ·) ?_ ?_)
  · unfold xEnt
    rw [(h _).1, Layout.block_apply]
    refine congrArg x (funext fun d => ?_)
    match d with
    | ⟨0, _⟩ => rfl
    | ⟨1, _⟩ => exact Fin.ext (by show k.val / 128 * 128 + k.val % 128 = k.val; omega)
  · unfold wEnt
    rw [(h c).2.1]

end Blocks

end Cert.Proof

end
-- ==== Proof.lean ====
/-
  The claims, put together: the frames of the printed kernel, of the kernel at the ideal instance and of the
  reference, and that each device's result is its rows of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Whole
public import Idealize.ShloMosaic.Adequacy
public import Idealize.ShloMosaic.Init

@[expose] public section

noncomputable section

namespace Cert.Proof

open Idealize.ShloMosaic Idealize.SL.Sem

/-- The printed kernel, at machine words: runs, arguments unchanged, counters at zero. -/
theorem frame_kernel : Cert.quiescent_Kernel (hKernel := Cert.Kernel.Gen.facts) :=
  fun m g _ => run_frame (F := Bits) m g

/-- The same of the kernel at the ideal instance. -/
theorem frame_ideal : Cert.quiescent_KernelIdeal (hKernelIdeal := Cert.KernelIdeal.Gen.facts) :=
  fun m g _ => Cert.KernelIdeal.AG.run_frame (F := Ideal) m g

/-- The same of the reference, which has no semaphore at all. -/
theorem frame_reference : Cert.quiescent_ReferenceIdeal (hReferenceIdeal := Cert.ReferenceIdeal.Gen.facts) :=
  fun m g _ => (θ_run Cert.ReferenceIdeal.defs _ _).mono
    (fun _ h => ⟨fun c => (h c).2, funext fun g => match g with
      | (_, .reg s) => Fin.elim0 s
      | (_, .dma s) => Fin.elim0 s⟩)
    (Cert.ReferenceIdeal.Value.run (F := Ideal) m g)

/-- At the ideal instance every device ends with its 128 rows of what the reference computes. -/
theorem same_values : Cert.algebraic_KernelIdeal_ReferenceIdeal (hKernelIdeal := Cert.KernelIdeal.Gen.facts)
    (hReferenceIdeal := Cert.ReferenceIdeal.Gen.facts) := by
  intro m g m' g' _ h
  refine ⟨refOut _ _ _ _, ?_, (θ_run Cert.ReferenceIdeal.defs _ _).mono (fun _ k => k 0) (Cert.ReferenceIdeal.Value.run (F := Ideal) m' g')⟩
  refine (θ_run Cert.KernelIdeal.defs _ _).mono (fun _ k c => ⟨?_, (k.1 c).2⟩) (Cert.KernelIdeal.AG.run_ends (F := Ideal) m g)
  exact ((k.1 c).1.trans (Cert.KernelIdeal.AG.finalA_out m g c)).trans (out_block m g _ _ _ _ h c)

theorem claim : Cert.Claim := ⟨Cert.Kernel.Gen.facts, Cert.KernelIdeal.Gen.facts, Cert.ReferenceIdeal.Gen.facts,
  frame_kernel, frame_ideal, frame_reference, trivial, same_values⟩

end Cert.Proof

end
